-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_windows [hPre_windows : Cert.Pre_windows.Facts] (m : (ℓ : Loc Cert.KernelIdeal.nD Cert.KernelIdeal.τ Cert.KernelIdeal.sig) → Buf (Elt Ideal) ℓ) : Prop :=
  ∀ c : Dev Cert.KernelIdeal.nD,
    (Cert.Pre_windows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_windows [hPre_windows : Cert.Pre_windows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_windows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_windows [hKernelIdeal : Cert.KernelIdeal.Facts] [hPre_windows : Cert.Pre_windows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_windows m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_windows [hReferenceIdeal : Cert.ReferenceIdeal.Facts] [hPre_windows : Cert.Pre_windows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_windows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "scale" .f32 0x3E3504F3#32 (((Real.sqrt 32)⁻¹ : ℝ) : EReal)

def algebraic_KernelIdeal_ReferenceIdeal_pre_windows [hKernelIdeal : Cert.KernelIdeal.Facts] [hReferenceIdeal : Cert.ReferenceIdeal.Facts] [hPre_windows : Cert.Pre_windows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_windows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_windows : Cert.Pre_windows.Facts),
    quiescent_Kernel (hKernel := hKernel)
    ∧ quiescent_KernelIdeal (hKernelIdeal := hKernelIdeal)
    ∧ quiescent_KernelIdeal_pre_windows (hKernelIdeal := hKernelIdeal) (hPre_windows := hPre_windows)
    ∧ quiescent_ReferenceIdeal (hReferenceIdeal := hReferenceIdeal)
    ∧ quiescent_ReferenceIdeal_pre_windows (hReferenceIdeal := hReferenceIdeal) (hPre_windows := hPre_windows)
    ∧ preserves_Kernel_KernelIdeal
    ∧ algebraic_KernelIdeal_ReferenceIdeal_pre_windows (hKernelIdeal := hKernelIdeal) (hReferenceIdeal := hReferenceIdeal) (hPre_windows := hPre_windows)
-- ==== Pre_windows.lean ====
abbrev S4x512x512 : Shape := ⟨3, ![4, 512, 512]⟩
abbrev S4x2048x128 : Shape := ⟨3, ![4, 2048, 128]⟩
abbrev S4x512 : Shape := ⟨2, ![4, 512]⟩
abbrev S512x128 : Shape := ⟨2, ![512, 128]⟩
abbrev S128x128 : Shape := ⟨2, ![128, 128]⟩
abbrev S128x512 : Shape := ⟨2, ![128, 512]⟩
abbrev S512 : Shape := ⟨1, ![512]⟩
abbrev S128 : Shape := ⟨1, ![128]⟩
abbrev S_ : Shape := ⟨0, ![]⟩

class Facts : Prop where
  bcast_S_S4x512 : S_.BroadcastsInDim S4x512 (![] : Fin 0 → Fin S4x512.rank)
  reducesTo_S4x512_S_d0_1 : S4x512.ReducesTo [0, 1] S_
  h_S_ : 0 < S_.numel

variable [Facts]

def fn {F : FTy → Type} [FloatOps F] (main_arg0 : FVec F S4x512x512 .f32) (main_arg1 : FVec F S4x2048x128 .f32) (main_arg2 : IVec S4x512 32) (main_arg3 : IVec S4x512 32) (main_arg4 : FVec F S4x512 .f32) (main_arg5 : FVec F S512x128 .f32) (main_arg6 : FVec F S128x128 .f32) (main_arg7 : FVec F S128x128 .f32) (main_arg8 : FVec F S512x128 .f32) (main_arg9 : FVec F S128x512 .f32) (main_arg10 : FVec F S512 .f32) (main_arg11 : FVec F S512 .f32) (main_arg12 : FVec F S128 .f32) (main_arg13 : FVec F S128 .f32) : IVec S_ 1 :=
  let main_v0 : IVec S4x512 32 := iotaInDim S4x512 32 1
  let main_c : IVec S_ 32 := constantI S_ 32 4#32
  let main_v1 : IVec S4x512 32 := broadcastInDim S4x512 ![] bcast_S_S4x512 main_c
  let main_v2 : IVec S4x512 32 := muli main_v0 main_v1
  let main_v3 : IVec S4x512 1 := cmpi .eq main_arg2 main_v2
  let main_c_0 : IVec S_ 1 := constantI S_ 1 1#1
  let main_v4 : IVec S_ 1 := (fun x v => Host.reduce IntOp.andi x v reducesTo_S4x512_S_d0_1 h_S_) main_v3 main_c_0
  let main_c_1 : IVec S_ 32 := constantI S_ 32 4#32
  let main_v5 : IVec S4x512 32 := broadcastInDim S4x512 ![] bcast_S_S4x512 main_c_1
  let main_v6 : IVec S4x512 1 := cmpi .sle main_arg3 main_v5
  let main_c_2 : IVec S_ 1 := constantI S_ 1 1#1
  let main_v7 : IVec S_ 1 := (fun x v => Host.reduce IntOp.andi x v reducesTo_S4x512_S_d0_1 h_S_) main_v6 main_c_2
  let main_v8 : IVec S_ 1 := andi main_v4 main_v7
  let main_cst : FVec F S_ .f32 := constant S_ .f32 0x3F800000#32
  let main_v9 : FVec F S4x512 .f32 := broadcastInDim S4x512 ![] bcast_S_S4x512 main_cst
  let main_v10 : IVec S4x512 1 := cmpf .oeq main_arg4 main_v9
  let main_c_3 : IVec S_ 1 := constantI S_ 1 1#1
  let main_v11 : IVec S_ 1 := (fun x v => Host.reduce IntOp.andi x v reducesTo_S4x512_S_d0_1 h_S_) main_v10 main_c_3
  let main_v12 : IVec S_ 1 := andi main_v8 main_v11
  main_v12
-- ==== Kernel.lean ====
abbrev S4x512x512 : Shape := ⟨3, ![4, 512, 512]⟩
abbrev S4x2048x128 : Shape := ⟨3, ![4, 2048, 128]⟩
abbrev S4x512 : Shape := ⟨2, ![4, 512]⟩
abbrev S512x128 : Shape := ⟨2, ![512, 128]⟩
abbrev S128x128 : Shape := ⟨2, ![128, 128]⟩
abbrev S128x512 : Shape := ⟨2, ![128, 512]⟩
abbrev S512 : Shape := ⟨1, ![512]⟩
abbrev S128 : Shape := ⟨1, ![128]⟩
abbrev S1x512 : Shape := ⟨2, ![1, 512]⟩
abbrev S1x128 : Shape := ⟨2, ![1, 128]⟩
abbrev S4x4x512 : Shape := ⟨3, ![4, 4, 512]⟩
abbrev S4x128 : Shape := ⟨2, ![4, 128]⟩
abbrev S_ : Shape := ⟨0, ![]⟩
abbrev S16 : Shape := ⟨1, ![16]⟩
abbrev S1x16 : Shape := ⟨2, ![1, 16]⟩
abbrev S1x4x128 : Shape := ⟨3, ![1, 4, 128]⟩
abbrev S1x512x512 : Shape := ⟨3, ![1, 512, 512]⟩
abbrev S1x2048x128 : Shape := ⟨3, ![1, 2048, 128]⟩
abbrev S1x4x512 : Shape := ⟨3, ![1, 4, 512]⟩
abbrev S512x512 : Shape := ⟨2, ![512, 512]⟩
abbrev S512x1 : Shape := ⟨2, ![512, 1]⟩
abbrev S2048x128 : Shape := ⟨2, ![2048, 128]⟩
abbrev S2048 : Shape := ⟨1, ![2048]⟩
abbrev S2048x1 : Shape := ⟨2, ![2048, 1]⟩
abbrev S512x4x128 : Shape := ⟨3, ![512, 4, 128]⟩
abbrev S512x1x128 : Shape := ⟨3, ![512, 1, 128]⟩
abbrev S4x1x512 : Shape := ⟨3, ![4, 1, 512]⟩

abbrev nBuf : Table → Nat
  | .hbm => 20
  | .local .tc .vmem => 17
  | .local .scVector .vmem => 2
  | _ => 0

abbrev bufTy : (tb : Table) → Fin (nBuf tb) → BufTy
  | .hbm, ⟨0, _⟩ => ⟨S4x512x512, .f32⟩
  | .hbm, ⟨1, _⟩ => ⟨S4x2048x128, .f32⟩
  | .hbm, ⟨2, _⟩ => ⟨S4x512, .i32⟩
  | .hbm, ⟨3, _⟩ => ⟨S4x512, .i32⟩
  | .hbm, ⟨4, _⟩ => ⟨S4x512, .f32⟩
  | .hbm, ⟨5, _⟩ => ⟨S512x128, .f32⟩
  | .hbm, ⟨6, _⟩ => ⟨S128x128, .f32⟩
  | .hbm, ⟨7, _⟩ => ⟨S128x128, .f32⟩
  | .hbm, ⟨8, _⟩ => ⟨S512x128, .f32⟩
  | .hbm, ⟨9, _⟩ => ⟨S128x512, .f32⟩
  | .hbm, ⟨10, _⟩ => ⟨S512, .f32⟩
  | .hbm, ⟨11, _⟩ => ⟨S512, .f32⟩
  | .hbm, ⟨12, _⟩ => ⟨S128, .f32⟩
  | .hbm, ⟨13, _⟩ => ⟨S128, .f32⟩
  | .hbm, ⟨14, _⟩ => ⟨S1x512, .f32⟩
  | .hbm, ⟨15, _⟩ => ⟨S1x512, .f32⟩
  | .hbm, ⟨16, _⟩ => ⟨S1x128, .f32⟩
  | .hbm, ⟨17, _⟩ => ⟨S1x128, .f32⟩
  | .hbm, ⟨18, _⟩ => ⟨S4x4x512, .f32⟩
  | .hbm, ⟨19, _⟩ => ⟨S4x512x512, .f32⟩
  | .local .tc .vmem, ⟨0, _⟩ => ⟨S1x512x512, .f32⟩
  | .local .tc .vmem, ⟨1, _⟩ => ⟨S1x512x512, .f32⟩
  | .local .tc .vmem, ⟨2, _⟩ => ⟨S1x2048x128, .f32⟩
  | .local .tc .vmem, ⟨3, _⟩ => ⟨S1x2048x128, .f32⟩
  | .local .tc .vmem, ⟨4, _⟩ => ⟨S1x4x512, .f32⟩
  | .local .tc .vmem, ⟨5, _⟩ => ⟨S1x4x512, .f32⟩
  | .local .tc .vmem, ⟨6, _⟩ => ⟨S512x128, .f32⟩
  | .local .tc .vmem, ⟨7, _⟩ => ⟨S128x128, .f32⟩
  | .local .tc .vmem, ⟨8, _⟩ => ⟨S128x128, .f32⟩
  | .local .tc .vmem, ⟨9, _⟩ => ⟨S512x128, .f32⟩
  | .local .tc .vmem, ⟨10, _⟩ => ⟨S128x512, .f32⟩
  | .local .tc .vmem, ⟨11, _⟩ => ⟨S1x512, .f32⟩
  | .local .tc .vmem, ⟨12, _⟩ => ⟨S1x512, .f32⟩
  | .local .tc .vmem, ⟨13, _⟩ => ⟨S1x128, .f32⟩
  | .local .tc .vmem, ⟨14, _⟩ => ⟨S1x128, .f32⟩
  | .local .tc .vmem, ⟨15, _⟩ => ⟨S1x512x512, .f32⟩
  | .local .tc .vmem, ⟨16, _⟩ => ⟨S1x512x512, .f32⟩
  | .local .scVector .vmem, ⟨0, _⟩ => ⟨S128, .i32⟩
  | .local .scVector .vmem, ⟨1, _⟩ => ⟨S4x128, .f32⟩
  | _, _ => ⟨S4x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_arg3_scv : Ref sig .scVector := ⟨.hbm, 3, rfl⟩
abbrev main_v4_scv : Ref sig .scVector := ⟨.hbm, 18, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg12_1 : Ref sig .tc := ⟨.vmem, 16, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem12_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_mult1 (i : grid0.Coords) : BitVec 32 :=
  let arg1 : BitVec 32 := BitVec.ofNat 32 (i 1).val
  let c128_i32_17 : BitVec 32 := 128#32
  let v46 : BitVec 32 := Scalar.muli arg1 c128_i32_17
  let c512_i32_18 : BitVec 32 := 512#32
  let c0_i32_19 : BitVec 32 := 0#32
  let v47 : BitVec 1 := Scalar.cmpi .eq c512_i32_18 c0_i32_19
  let c1_i32_20 : BitVec 32 := 1#32
  let v48 : BitVec 32 := Scalar.select v47 c1_i32_20 c512_i32_18
  let v49 : BitVec 32 := Scalar.remsi v46 v48
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let c0_i32_21 : BitVec 32 := 0#32
  let v50 : BitVec 1 := Scalar.cmpi .ne v49 c0_i32_21
  let v54 : BitVec 1 := Scalar.andi v53 v50
  let v55 : BitVec 32 := Scalar.addi v49 v48
  let v56 : BitVec 32 := Scalar.select v54 v55 v49
  v56
def k0_off1 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c128_i32 : BitVec 32 := 128#32
  let v27 : BitVec 32 := Scalar.muli v26 c128_i32
  ![v16.toNat, v27.toNat]
def k0_off2 (i : grid0.Coords) : Fin 3 → Nat :=
  let arg1 : BitVec 32 := BitVec.ofNat 32 (i 1).val
  let c128_i32_10 : BitVec 32 := 128#32
  let v28 : BitVec 32 := Scalar.muli arg1 c128_i32_10
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c512_i32 : BitVec 32 := 512#32
  let c0_i32_13 : BitVec 32 := 0#32
  let v35 : BitVec 1 := Scalar.cmpi .sgt c512_i32 c0_i32_13
  let v36 : BitVec 32 := Scalar.extui v35
  let c0_i32_14 : BitVec 32 := 0#32
  let v37 : BitVec 1 := Scalar.cmpi .slt c512_i32 c0_i32_14
  let v38 : BitVec 32 := Scalar.extui v37
  let v39 : BitVec 32 := Scalar.subi v36 v38
  let v40 : BitVec 1 := Scalar.cmpi .ne v34 v39
  let v41 : BitVec 32 := Scalar.remsi v28 c512_i32
  let c0_i32_15 : BitVec 32 := 0#32
  let v42 : BitVec 1 := Scalar.cmpi .ne v41 c0_i32_15
  let v43 : BitVec 1 := Scalar.andi v40 v42
  let v29 : BitVec 32 := Scalar.divsi v28 c512_i32
  let c1_i32_16 : BitVec 32 := 1#32
  let v44 : BitVec 32 := Scalar.subi v29 c1_i32_16
  let v45 : BitVec 32 := Scalar.select v43 v44 v29
  let c0_i32_181_r1 : BitVec 32 := 0#32
  let c128_i32_17 : BitVec 32 := 128#32
  let v46 : BitVec 32 := Scalar.muli arg1 c128_i32_17
  let c512_i32_18 : BitVec 32 := 512#32
  let c0_i32_19 : BitVec 32 := 0#32
  let v47 : BitVec 1 := Scalar.cmpi .eq c512_i32_18 c0_i32_19
  let c1_i32_20 : BitVec 32 := 1#32
  let v48 : BitVec 32 := Scalar.select v47 c1_i32_20 c512_i32_18
  let v49 : BitVec 32 := Scalar.remsi v46 v48
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let c0_i32_21 : BitVec 32 := 0#32
  let v50 : BitVec 1 := Scalar.cmpi .ne v49 c0_i32_21
  let v54 : BitVec 1 := Scalar.andi v53 v50
  let v55 : BitVec 32 := Scalar.addi v49 v48
  let v56 : BitVec 32 := Scalar.select v54 v55 v49
  let v57 : BitVec 32 := v56
  ![v45.toNat, 0, v57.toNat]
abbrev grid1 : Pipeline.Grid := ⟨1, ![4], ![false]⟩

def cc1_transform_0 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc1_transform_1 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1x512x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale" => some (((Real.sqrt 32)⁻¹ : ℝ) : EReal)
  | _ => none
-- ==== ReferenceIdeal.lean ====
abbrev S4x512x512 : Shape := ⟨3, ![4, 512, 512]⟩
abbrev S4x2048x128 : Shape := ⟨3, ![4, 2048, 128]⟩
abbrev S4x512 : Shape := ⟨2, ![4, 512]⟩
abbrev S512x128 : Shape := ⟨2, ![512, 128]⟩
abbrev S128x128 : Shape := ⟨2, ![128, 128]⟩
abbrev S128x512 : Shape := ⟨2, ![128, 512]⟩
abbrev S512 : Shape := ⟨1, ![512]⟩
abbrev S128 : Shape := ⟨1, ![128]⟩
abbrev S_ : Shape := ⟨0, ![]⟩
abbrev S4x512x1 : Shape := ⟨3, ![4, 512, 1]⟩
abbrev S1x1x512 : Shape := ⟨3, ![1, 1, 512]⟩
abbrev S4x2048 : Shape := ⟨2, ![4, 2048]⟩
abbrev S4x2048x1 : Shape := ⟨3, ![4, 2048, 1]⟩
abbrev S1x1x128 : Shape := ⟨3, ![1, 1, 128]⟩
abbrev S4x512x128 : Shape := ⟨3, ![4, 512, 128]⟩
abbrev S4x512x4x32 : Shape := ⟨4, ![4, 512, 4, 32]⟩
abbrev S4x4x512x32 : Shape := ⟨4, ![4, 4, 512, 32]⟩
abbrev S4x2048x4x32 : Shape := ⟨4, ![4, 2048, 4, 32]⟩
abbrev S4x4x2048x32 : Shape := ⟨4, ![4, 4, 2048, 32]⟩
abbrev S4x4x512x2048 : Shape := ⟨4, ![4, 4, 512, 2048]⟩
abbrev S2048 : Shape := ⟨1, ![2048]⟩
abbrev S1x1x2048 : Shape := ⟨3, ![1, 1, 2048]⟩
abbrev S4x512x2048 : Shape := ⟨3, ![4, 512, 2048]⟩
abbrev S4x1x512x2048 : Shape := ⟨4, ![4, 1, 512, 2048]⟩
abbrev S4x4x512 : Shape := ⟨3, ![4, 4, 512]⟩
abbrev S4x4x512x1 : Shape := ⟨4, ![4, 4, 512, 1]⟩
abbrev S4x1x512x1 : Shape := ⟨4, ![4, 1, 512, 1]⟩

abbrev nBuf : Space → Nat
  | .hbm => 146
  | .vmem => 0
  | .smem => 0
  | _ => 0

abbrev hbmTy0_0 (i : Nat) : BufTy := match i % 128 with
  | 0 => ⟨S4x512x512, .f32⟩
  | 1 => ⟨S4x2048x128, .f32⟩
  | 2 => ⟨S4x512, .i32⟩
  | 3 => ⟨S4x512, .i32⟩
  | 4 => ⟨S4x512, .f32⟩
  | 5 => ⟨S512x128, .f32⟩
  | 6 => ⟨S128x128, .f32⟩
  | 7 => ⟨S128x128, .f32⟩
  | 8 => ⟨S512x128, .f32⟩
  | 9 => ⟨S128x512, .f32⟩
  | 10 => ⟨S512, .f32⟩
  | 11 => ⟨S512, .f32⟩
  | 12 => ⟨S128, .f32⟩
  | 13 => ⟨S128, .f32⟩
  | 14 => ⟨S_, .f32⟩
  | 15 => ⟨S4x512, .f32⟩
  | 16 => ⟨S4x512x1, .f32⟩
  | 17 => ⟨S_, .f32⟩
  | 18 => ⟨S4x512x1, .f32⟩
  | 19 => ⟨S4x512x1, .f32⟩
  | 20 => ⟨S4x512x512, .f32⟩
  | 21 => ⟨S4x512x512, .f32⟩
  | 22 => ⟨S4x512x512, .f32⟩
  | 23 => ⟨S_, .f32⟩
  | 24 => ⟨S4x512, .f32⟩
  | 25 => ⟨S4x512x1, .f32⟩
  | 26 => ⟨S_, .f32⟩
  | 27 => ⟨S4x512x1, .f32⟩
  | 28 => ⟨S4x512x1, .f32⟩
  | 29 => ⟨S4x512x512, .f32⟩
  | 30 => ⟨S4x512x512, .f32⟩
  | 31 => ⟨S_, .f32⟩
  | 32 => ⟨S4x512x1, .f32⟩
  | 33 => ⟨S4x512x1, .f32⟩
  | 34 => ⟨S4x512x1, .f32⟩
  | 35 => ⟨S4x512x512, .f32⟩
  | 36 => ⟨S4x512x512, .f32⟩
  | 37 => ⟨S1x1x512, .f32⟩
  | 38 => ⟨S4x512x512, .f32⟩
  | 39 => ⟨S4x512x512, .f32⟩
  | 40 => ⟨S1x1x512, .f32⟩
  | 41 => ⟨S4x512x512, .f32⟩
  | 42 => ⟨S4x512x512, .f32⟩
  | 43 => ⟨S_, .f32⟩
  | 44 => ⟨S4x2048, .f32⟩
  | 45 => ⟨S4x2048x1, .f32⟩
  | 46 => ⟨S_, .f32⟩
  | 47 => ⟨S4x2048x1, .f32⟩
  | 48 => ⟨S4x2048x1, .f32⟩
  | 49 => ⟨S4x2048x128, .f32⟩
  | 50 => ⟨S4x2048x128, .f32⟩
  | 51 => ⟨S4x2048x128, .f32⟩
  | 52 => ⟨S_, .f32⟩
  | 53 => ⟨S4x2048, .f32⟩
  | 54 => ⟨S4x2048x1, .f32⟩
  | 55 => ⟨S_, .f32⟩
  | 56 => ⟨S4x2048x1, .f32⟩
  | 57 => ⟨S4x2048x1, .f32⟩
  | 58 => ⟨S4x2048x128, .f32⟩
  | 59 => ⟨S4x2048x128, .f32⟩
  | 60 => ⟨S_, .f32⟩
  | 61 => ⟨S4x2048x1, .f32⟩
  | 62 => ⟨S4x2048x1, .f32⟩
  | 63 => ⟨S4x2048x1, .f32⟩
  | 64 => ⟨S4x2048x128, .f32⟩
  | 65 => ⟨S4x2048x128, .f32⟩
  | 66 => ⟨S1x1x128, .f32⟩
  | 67 => ⟨S4x2048x128, .f32⟩
  | 68 => ⟨S4x2048x128, .f32⟩
  | 69 => ⟨S1x1x128, .f32⟩
  | 70 => ⟨S4x2048x128, .f32⟩
  | 71 => ⟨S4x2048x128, .f32⟩
  | 72 => ⟨S4x512x128, .f32⟩
  | 73 => ⟨S4x512x4x32, .f32⟩
  | 74 => ⟨S4x4x512x32, .f32⟩
  | 75 => ⟨S4x2048x128, .f32⟩
  | 76 => ⟨S4x2048x4x32, .f32⟩
  | 77 => ⟨S4x4x2048x32, .f32⟩
  | 78 => ⟨S4x2048x128, .f32⟩
  | 79 => ⟨S4x2048x4x32, .f32⟩
  | 80 => ⟨S4x4x2048x32, .f32⟩
  | 81 => ⟨S4x512x128, .f32⟩
  | 82 => ⟨S4x512x4x32, .f32⟩
  | 83 => ⟨S4x4x512x32, .f32⟩
  | 84 => ⟨S4x4x512x2048, .f32⟩
  | 85 => ⟨S_, .f32⟩
  | 86 => ⟨S_, .f32⟩
  | 87 => ⟨S4x4x512x2048, .f32⟩
  | 88 => ⟨S4x4x512x2048, .f32⟩
  | 89 => ⟨S2048, .i32⟩
  | 90 => ⟨S4x512, .i32⟩
  | 91 => ⟨S1x1x2048, .i32⟩
  | 92 => ⟨S4x512x1, .i32⟩
  | 93 => ⟨S4x512x2048, .i32⟩
  | 94 => ⟨S4x512x2048, .i32⟩
  | 95 => ⟨S4x512x2048, .i1⟩
  | 96 => ⟨S1x1x2048, .i32⟩
  | 97 => ⟨S4x512x1, .i32⟩
  | 98 => ⟨S4x512x2048, .i32⟩
  | 99 => ⟨S4x512x2048, .i32⟩
  | 100 => ⟨S4x512x2048, .i1⟩
  | 101 => ⟨S4x512x2048, .i1⟩
  | 102 => ⟨S4x1x512x2048, .i1⟩
  | 103 => ⟨S4x1x512x2048, .f32⟩
  | 104 => ⟨S_, .f32⟩
  | 105 => ⟨S4x1x512x2048, .f32⟩
  | 106 => ⟨S4x1x512x2048, .i1⟩
  | 107 => ⟨S_, .f32⟩
  | 108 => ⟨S_, .f32⟩
  | 109 => ⟨S4x4x512x2048, .i1⟩
  | 110 => ⟨S4x4x512x2048, .f32⟩
  | 111 => ⟨S4x4x512x2048, .f32⟩
  | 112 => ⟨S_, .f32⟩
  | 113 => ⟨S4x4x512, .f32⟩
  | 114 => ⟨S4x4x512x1, .f32⟩
  | 115 => ⟨S4x4x512x2048, .f32⟩
  | 116 => ⟨S4x4x512x2048, .f32⟩
  | 117 => ⟨S4x4x512x2048, .f32⟩
  | 118 => ⟨S4x4x512x2048, .f32⟩
  | 119 => ⟨S4x4x512x2048, .f32⟩
  | 120 => ⟨S_, .f32⟩
  | 121 => ⟨S4x4x512, .f32⟩
  | 122 => ⟨S4x4x512x1, .f32⟩
  | 123 => ⟨S_, .f32⟩
  | 124 => ⟨S4x4x512x1, .f32⟩
  | 125 => ⟨S4x4x512x1, .f32⟩
  | 126 => ⟨S4x4x512x2048, .f32⟩
  | 127 => ⟨S4x4x512x2048, .f32⟩
  | _ => ⟨S4x512x512, .f32⟩

abbrev hbmTy0_1 (i : Nat) : BufTy := match i % 128 with
  | 0 => ⟨S4x4x512x32, .f32⟩
  | 1 => ⟨S4x1x512x1, .f32⟩
  | 2 => ⟨S4x4x512x32, .f32⟩
  | 3 => ⟨S4x4x512x32, .f32⟩
  | 4 => ⟨S4x512x4x32, .f32⟩
  | 5 => ⟨S4x512x128, .f32⟩
  | 6 => ⟨S4x512x4x32, .f32⟩
  | 7 => ⟨S4x512x128, .f32⟩
  | 8 => ⟨S4x512x128, .f32⟩
  | 9 => ⟨S4x512x128, .f32⟩
  | 10 => ⟨S_, .f32⟩
  | 11 => ⟨S4x512x128, .f32⟩
  | 12 => ⟨S4x512x128, .f32⟩
  | 13 => ⟨S_, .f32⟩
  | 14 => ⟨S4x512x128, .f32⟩
  | 15 => ⟨S4x512x128, .f32⟩
  | 16 => ⟨S4x512x128, .f32⟩
  | 17 => ⟨S4x512x512, .f32⟩
  | _ => ⟨S4x512x512, .f32⟩

abbrev hbmTy (i : Nat) : BufTy := match i / 128 with
  | 0 => hbmTy0_0 i
  | 1 => hbmTy0_1 i
  | _ => ⟨S4x512x512, .f32⟩

abbrev bufTy : (tb : Table) → Fin (tcTables nBuf tb) → BufTy
  | .hbm, ⟨i, _⟩ => hbmTy i
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_10 : Ref sig .tc := ⟨.hbm, 104, rfl⟩
abbrev main_v79 : Ref sig .tc := ⟨.hbm, 105, rfl⟩
abbrev main_v80 : Ref sig .tc := ⟨.hbm, 106, rfl⟩
abbrev main_cst_11 : Ref sig .tc := ⟨.hbm, 107, rfl⟩
abbrev main_call0_v0 : Ref sig .tc := ⟨.hbm, 108, rfl⟩
abbrev main_call0_v1 : Ref sig .tc := ⟨.hbm, 109, rfl⟩
abbrev main_call0_v2 : Ref sig .tc := ⟨.hbm, 110, rfl⟩
abbrev main_v81 : Ref sig .tc := ⟨.hbm, 111, rfl⟩
abbrev main_cst_12 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_13 : Ref sig .tc := ⟨.hbm, 120, rfl⟩
abbrev main_v89 : Ref sig .tc := ⟨.hbm, 121, rfl⟩
abbrev main_v90 : Ref sig .tc := ⟨.hbm, 122, rfl⟩
abbrev main_cst_14 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_15 : Ref sig .tc := ⟨.hbm, 138, rfl⟩
abbrev main_v105 : Ref sig .tc := ⟨.hbm, 139, rfl⟩
abbrev main_v106 : Ref sig .tc := ⟨.hbm, 140, rfl⟩
abbrev main_cst_16 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩

abbrev nD : Nat := 1
abbrev τ : Topo := Topo.v7x

variable {F : FTy → Type} [FloatOps F]
-- ==== Proof.Setup.lean ====
/-
  The launch as the proof sees it: the program's calls, the resource algebra the run is verified in (the SparseCore
  handshake rounds, the pipeline's rounds, the counters of local transfers), the buffers by name, and the contents the
  SparseCore call leaves in the bias array. Everything is stated for any reading of the floats that gives the named
  constants a value, so that one run serves every reading.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Pipeline.Value
public import Idealize.ShloMosaic.Lib.PointwiseCore
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Attn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program with its pipelined region. -/
abbrev ΛP : Labels := Pipeline.Sig Λ₀ (Fin 1) fun p => (pcfgs (F := F) p).Adm
/-- The SparseCore call's configuration; -/
abbrev K : SparseCore.Cfg τ sig (ΛP (F := F)) 1 := sc (F := F)
/-- the program's definitions; -/
abbrev D [FloatOps F] [Named F] : Defs nD τ sig (Elt F) (ΛP (F := F)) := Pipeline.defs pcfgs defs₀
/-- the loop variants, of which there are none; -/
abbrev 𝒱₀ : Variants := Variants.none
/-- lifted to the program; -/
abbrev 𝒱 : Variants := 𝒱₀.lift
/-- the variant at the start. -/
abbrev v₀ : 𝒱.V := Sum.inl none

/-- The launch's side conditions: its four semaphores are distinct where they must be and none is scoped, no buffer is
    shared by the subcores of a SparseCore, and there is one SparseCore call. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

/-- Ghost state: the handshakes' rounds; -/
abbrev UH : Type := URounds (GSem nD τ sig) ℕ
/-- the pipeline's rounds; -/
abbrev UP : Type := URounds (GSem nD τ sig) Unit
/-- both, with the counters of the copies. -/
abbrev UU : Type := UH × (UP × Counters)

local notation "𝕄" => MT nD τ sig (HIx 1) (Elt F) ℕ UU ℕ

/-- Where the handshakes' part lies in the whole. -/
abbrev EH : Emb UH (MT nD τ sig (HIx 1) (Elt F) ℕ UU ℕ) := embL
/-- The pipeline's rounds inside the machine's algebra. -/
def EP : Emb UP (MT nD τ sig (HIx 1) (Elt F) ℕ UU ℕ) := (Emb.inl : Emb UP (UP × Counters)).trans embR
/-- The pipeline's part lies in the user's ghost state. -/
instance EP_landsIn : (EP : Emb UP 𝕄).LandsIn (upEmb : UEmb _ 𝕄) := by unfold EP; infer_instance

/-! ## The buffers -/

/-- Where a device keeps the counts; -/
abbrev cLoc (d : Dev nD) : Loc nD τ sig := (SparseCore.T d).loc main_arg3
/-- where it keeps the bias. -/
abbrev bLoc (d : Dev nD) : Loc nD τ sig := (SparseCore.T d).loc main_v4

/-! ## What the SparseCore call leaves in the bias array -/

variable [FloatOps F] [Named F]

/-- The bias of slot `j` of a token with `c` atoms: nothing if the slot is taken, the mask's constant if it is empty. -/
def biasVal (c : BitVec 32) (j : ℕ) : F .f32 :=
  if IntOp.cmpi .sgt c (BitVec.ofNat 32 j) = 1#1 then Scalar.ofBits .f32 0x00000000#32 else Named.named κ "mask" 0xCE6E6B28#32

/-- The bias array from the counts: slot `j` of token `n` of batch `b`. -/
def biasOf (cnt : S4x512.Idx → BitVec 32) : S4x4x512.Idx → F .f32 := fun x => biasVal (cnt (ix2 (n0 := 4) (n1 := 512) (x 0) (x 2))) (x 1).val

end Cert.Proof.Attn

end
-- ==== Proof.Bias.lean ====
/-
  One task of the SparseCore call: vector subcore `L` copies its 128 counts, writes the bias of the four slots of each of
  its 128 tokens into its scratch, and copies the scratch to its block of the bias array.
-/
module

public import proofs.«01_k».proof.Proof.Setup

@[expose] public section

noncomputable section

namespace Cert.Proof.Attn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## The task's buffers -/

/-- The whole arrays and scratch buffers that a task names: the counts; -/
abbrev cntV : Memref sig .scVector .hbm S4x512 .i32 := Memref.whole main_arg3_scv
/-- the bias; -/
abbrev biasV : Memref sig .scVector .hbm S4x4x512 .f32 := Memref.whole main_v4_scv
/-- the task's own counts; -/
abbrev cV : Memref sig .scVector .vmem S128 .i32 := Memref.whole cc0_scratch0
/-- the task's own bias values; -/
abbrev bV : Memref sig .scVector .vmem S4x128 .f32 := Memref.whole cc0_scratch1

/-- The core and the tile of a task; -/
abbrev coreOf (L : grid0.Coords) : Fin τ.nSC := (L 0).castLE hcore0
/-- its tile. -/
abbrev subOf (L : grid0.Coords) : Fin τ.nSub := (L 1).castLE hsub0

/-- Task `L`'s counts and its block of the bias array, as the task addresses them. -/
abbrev cntK (L : grid0.Coords) : Memref sig .scVector .hbm S128 .i32 :=
  (cntV.slice (Rect.unit (s := S4x512) (k0_off1 L) S1x128.size (k0_off1_inb L)) (fun _ => rfl)).squeeze S128 squeezes_S1x128_S128
/-- Task `L`'s block of the bias array. -/
abbrev biasK (L : grid0.Coords) : Memref sig .scVector .hbm S4x128 .f32 :=
  (biasV.slice (Rect.unit (s := S4x4x512) (k0_off2 L) S1x4x128.size (k0_off2_inb L)) (fun _ => rfl)).squeeze S4x128 squeezes_S1x4x128_S4x128

/-- The elements of a task's counts; -/
abbrev cntSet (L : grid0.Coords) : Finset S4x512.Idx := (cntK L).view.set
/-- the elements of its block. -/
abbrev biasSet (L : grid0.Coords) : Finset S4x4x512.Idx := (biasK L).view.set

/-- Where task `L`'s counts start: four tasks to a batch, 128 tokens each. -/
theorem off1_eq : ∀ L : grid0.Coords, k0_off1 L = ![(L 1).val / 4, (L 1).val % 4 * 128] := by decide +kernel
/-- Where its block of the bias array starts: the same batch and tokens, every slot. -/
theorem off2_eq : ∀ L : grid0.Coords, k0_off2 L = ![(L 1).val / 4, 0, (L 1).val % 4 * 128] := by decide +kernel

/-- A buffer written piece by piece reads `G` wherever some piece covers it, if every piece's payload is `G` on its rectangle. -/
theorem read_pieces {κ : Kind} {sp : Space} {s : Shape} {e : EltTy} {Val : EltTy → Type} (v : View sig κ sp s e) (f : v.ty.Contents Val)
    (G : s.Idx → Val e) (y : s.Idx) :
    ∀ Ls : List (View.Piece Val s e), (∀ p ∈ Ls, ∀ x : p.1.shape.Idx, p.2 x = G (p.1.emb x)) → (∃ p ∈ Ls, y ∈ p.1.set) →
      v.read Val (v.writes Val f Ls) y = G y
  | [], _, h => by obtain ⟨_, hm, _⟩ := h; exact absurd hm List.not_mem_nil
  | p :: Ls, hP, h => by
    by_cases hy : y ∈ p.1.set
    · obtain ⟨x, rfl⟩ : ∃ x, p.1.emb x = y := p.1.exists_idx_of_mem hy
      exact (View.read_writes_cons_emb v f p.1 p.2 Ls x).trans (hP p List.mem_cons_self x)
    · have hy' : y ∉ Finset.univ.map p.1.emb := by rwa [Rect.map_emb_univ]
      rw [View.writes_cons, View.read_slice_write_of_not_mem p.1 _ _ _ hy']
      refine read_pieces v f G y Ls (fun q hq => hP q (List.mem_cons_of_mem _ hq)) ?_
      obtain ⟨q, hq, hyq⟩ := h
      rcases List.mem_cons.mp hq with rfl | hq'
      · exact absurd hyq hy
      · exact ⟨q, hq', hyq⟩

/-- One more piece whose payload is `G` on its rectangle. -/
theorem pieces_cons {s : Shape} {e : EltTy} {Val : EltTy → Type} (G : s.Idx → Val e) (r : Rect s) (P : r.shape.Idx → Val e)
    (Ls : List (View.Piece Val s e)) (h : ∀ x, P x = G (r.emb x)) (h' : ∀ p ∈ Ls, ∀ x : p.1.shape.Idx, p.2 x = G (p.1.emb x)) :
    ∀ p ∈ (⟨r, P⟩ :: Ls : List (View.Piece Val s e)), ∀ x : p.1.shape.Idx, p.2 x = G (p.1.emb x) :=
  List.forall_mem_cons.mpr ⟨h, h'⟩

/-- Word `l` of task `L`'s counts is the array's at batch `s / 4`, token `128 (s % 4) + l`. -/
theorem cnt_emb (L : grid0.Coords) (l : S128.Idx) :
    ((cntK L).view.emb l 0).val = (L 1).val / 4 ∧ ((cntK L).view.emb l 1).val = (L 1).val % 4 * 128 + (l 0).val := by
  have h : (cntK L).view.emb l = (Rect.unit (s := S4x512) (k0_off1 L) S1x128.size (k0_off1_inb L)).emb
      (Shape.reshapeEquiv squeezes_S1x128_S128.numel_eq l) := rfl
  rw [h]
  erw [Shape.reshapeEquiv_cons_one (d := ![128]) squeezes_S1x128_S128.numel_eq l]
  rw [Rect.emb_apply, Rect.emb_apply]
  simp only [Rect.off_unit, Rect.stride_unit, off1_eq]
  constructor
  · show (L 1).val / 4 + 1 * 0 = _; omega
  · show (L 1).val % 4 * 128 + 1 * (l 0).val = _; omega

/-- Word `(j, l)` of task `L`'s block is the bias array's at batch `s / 4`, slot `j`, token `128 (s % 4) + l`. -/
theorem bias_emb (L : grid0.Coords) (x : S4x128.Idx) :
    ((biasK L).view.emb x 0).val = (L 1).val / 4 ∧ ((biasK L).view.emb x 1).val = (x 0).val
      ∧ ((biasK L).view.emb x 2).val = (L 1).val % 4 * 128 + (x 1).val := by
  have h : (biasK L).view.emb x = (Rect.unit (s := S4x4x512) (k0_off2 L) S1x4x128.size (k0_off2_inb L)).emb
      (Shape.reshapeEquiv squeezes_S1x4x128_S4x128.numel_eq x) := rfl
  rw [h]
  erw [Shape.reshapeEquiv_cons_one (d := ![4, 128]) squeezes_S1x4x128_S4x128.numel_eq x]
  rw [Rect.emb_apply, Rect.emb_apply, Rect.emb_apply]
  simp only [Rect.off_unit, Rect.stride_unit, off2_eq]
  refine ⟨?_, ?_, ?_⟩
  · show (L 1).val / 4 + 1 * 0 = _; omega
  · show 0 + 1 * (x 0).val = _; omega
  · show (L 1).val % 4 * 128 + 1 * (x 1).val = _; omega

section Payload
variable [FloatOps F] [Named F]

/-- One store's payload: lane `l` of the sixteen counts `w`, at slot `j`. -/
theorem pay_lane (w : IVec S16 32) (j : ℕ) (x : S1x16.Idx) :
    shapeCast (α := F .f32) S1x16 (select (cmpi .sgt w (broadcast S16 (BitVec.ofNat 32 j))) (broadcast S16 (Scalar.ofBits .f32 0x00000000#32))
      (broadcast S16 (Named.named κ "mask" 0xCE6E6B28#32))) shapeCasts_S16_S1x16 x = biasVal (w (ix1 (n0 := 16) (x 1))) j := by
  refine (shapeCast_addUnit_apply (α := F .f32) ![16] _ _ x).trans ?_
  show Scalar.select (IntOp.cmpi .sgt (w _) _) _ _ = _
  unfold biasVal Scalar.select
  rw [show (fun a : Fin 1 => x a.succ : S16.Idx) = ix1 (n0 := 16) (x 1) from funext fun a => by rw [Subsingleton.elim a 0]; rfl]
  rfl

/-- What the block of a task holds, from its counts: the bias of slot `j` of token `l`. -/
abbrev blockOf (c : S128.Idx → BitVec 32) : S4x128.Idx → F .f32 := fun y => biasVal (c (ix1 (n0 := 128) (y 1))) (y 0).val

/-- One store's payload, from the sixteen counts it loads and its slot. -/
def slotPay (w : Vec F S16 .i32) (j : BitVec 32) : FVec F S1x16 .f32 :=
  shapeCast S1x16 (select (cmpi .sgt (shapeCast S16 w shapeCasts_S16_S16) (broadcast S16 j)) (broadcast S16 (Scalar.ofBits .f32 0x00000000#32))
    (broadcast S16 (Named.named κ "mask" 0xCE6E6B28#32))) shapeCasts_S16_S1x16

/-- The store of slot `j` of tokens `g …` writes the block's values. -/
theorem pay_block (fs : S128.Idx → BitVec 32) (c : S128.Idx → BitVec 32) (g : ℕ)
    (hg : ∀ a, (![g] : Fin 1 → ℕ) a + S16.size a ≤ S128.size a) (j : ℕ) (hj : ∀ a, (![j, g] : Fin 2 → ℕ) a + S1x16.size a ≤ S4x128.size a)
    (P : FVec F S1x16 .f32) (hP : P = slotPay (View.readAt (Elt F) cV.view (Rect.unit (s := S128) ![g] ![16] hg).toLoadRect
      (View.write (Elt F) cV.view fs c Finset.univ)) (BitVec.ofNat 32 j)) (x : S1x16.Idx) :
    P x = blockOf c ((Rect.unit (s := S4x128) ![j, g] ![1, 16] hj).emb x) := by
  subst hP
  refine (pay_lane _ j x).trans ?_
  have h0 : (x 0).val = 0 := by have := (x 0).isLt; simp at this; omega
  rw [View.write_whole_univ]
  refine congrArg₂ biasVal ((congrFun (shapeCast_self _ _) _).trans ?_) ?_
  · refine congrArg c (funext fun a : Fin 1 => ?_)
    obtain rfl : a = 0 := Subsingleton.elim a 0
    rfl
  · rw [Rect.emb_apply]; show j = j + 1 * (x 0).val; omega

/-- The words of one store. -/
theorem mem_store (y : S4x128.Idx) {g j : ℕ} (h : j ≤ (y 0).val ∧ (y 0).val < j + 1 ∧ g ≤ (y 1).val ∧ (y 1).val < g + 16)
    {hj : ∀ a, (![j, g] : Fin 2 → ℕ) a + S1x16.size a ≤ S4x128.size a} : y ∈ (Rect.unit (s := S4x128) ![j, g] ![1, 16] hj).set :=
  Rect.mem_set_unit.mpr fun a => match a with
    | 0 => ⟨h.1, h.2.1⟩
    | 1 => ⟨h.2.2.1, h.2.2.2⟩

/-- The thirty-two stores' rectangles, the newest first. -/
abbrev stores : List (Rect S4x128) :=
  [Rect.unit ![3, 112] ![1, 16] inb_S4x128_S1x16_3_112, Rect.unit ![2, 112] ![1, 16] inb_S4x128_S1x16_2_112, Rect.unit ![1, 112] ![1, 16] inb_S4x128_S1x16_1_112, Rect.unit ![0, 112] ![1, 16] inb_S4x128_S1x16_0_112,
   Rect.unit ![3, 96] ![1, 16] inb_S4x128_S1x16_3_96, Rect.unit ![2, 96] ![1, 16] inb_S4x128_S1x16_2_96, Rect.unit ![1, 96] ![1, 16] inb_S4x128_S1x16_1_96, Rect.unit ![0, 96] ![1, 16] inb_S4x128_S1x16_0_96,
   Rect.unit ![3, 80] ![1, 16] inb_S4x128_S1x16_3_80, Rect.unit ![2, 80] ![1, 16] inb_S4x128_S1x16_2_80, Rect.unit ![1, 80] ![1, 16] inb_S4x128_S1x16_1_80, Rect.unit ![0, 80] ![1, 16] inb_S4x128_S1x16_0_80,
   Rect.unit ![3, 64] ![1, 16] inb_S4x128_S1x16_3_64, Rect.unit ![2, 64] ![1, 16] inb_S4x128_S1x16_2_64, Rect.unit ![1, 64] ![1, 16] inb_S4x128_S1x16_1_64, Rect.unit ![0, 64] ![1, 16] inb_S4x128_S1x16_0_64,
   Rect.unit ![3, 48] ![1, 16] inb_S4x128_S1x16_3_48, Rect.unit ![2, 48] ![1, 16] inb_S4x128_S1x16_2_48, Rect.unit ![1, 48] ![1, 16] inb_S4x128_S1x16_1_48, Rect.unit ![0, 48] ![1, 16] inb_S4x128_S1x16_0_48,
   Rect.unit ![3, 32] ![1, 16] inb_S4x128_S1x16_3_32, Rect.unit ![2, 32] ![1, 16] inb_S4x128_S1x16_2_32, Rect.unit ![1, 32] ![1, 16] inb_S4x128_S1x16_1_32, Rect.unit ![0, 32] ![1, 16] inb_S4x128_S1x16_0_32,
   Rect.unit ![3, 16] ![1, 16] inb_S4x128_S1x16_3_16, Rect.unit ![2, 16] ![1, 16] inb_S4x128_S1x16_2_16, Rect.unit ![1, 16] ![1, 16] inb_S4x128_S1x16_1_16, Rect.unit ![0, 16] ![1, 16] inb_S4x128_S1x16_0_16,
   Rect.unit ![3, 0] ![1, 16] inb_S4x128_S1x16_3_0, Rect.unit ![2, 0] ![1, 16] inb_S4x128_S1x16_2_0, Rect.unit ![1, 0] ![1, 16] inb_S4x128_S1x16_1_0, Rect.unit ![0, 0] ![1, 16] inb_S4x128_S1x16_0_0]

/-- Every word of the block is in one of the thirty-two stores. -/
theorem cover_block (y : S4x128.Idx) : ∃ r ∈ stores, y ∈ r.set := by
  have h0 : (y 0).val < 4 := (y 0).isLt
  have h1 : (y 1).val < 128 := (y 1).isLt
  obtain ⟨g, j, hg, hj, h⟩ : ∃ g j, g < 8 ∧ j < 4 ∧ j ≤ (y 0).val ∧ (y 0).val < j + 1 ∧ 16 * g ≤ (y 1).val ∧ (y 1).val < 16 * g + 16 :=
    ⟨(y 1).val / 16, (y 0).val, by omega, by omega, by omega, by omega, by omega, by omega⟩
  interval_cases g <;> interval_cases j
  exacts [
    ⟨Rect.unit ![0, 0] ![1, 16] inb_S4x128_S1x16_0_0, by simp only [stores, List.mem_cons, true_or, or_true], mem_store y h⟩,
    ⟨Rect.unit ![1, 0] ![1, 16] inb_S4x128_S1x16_1_0, by simp only [stores, List.mem_cons, true_or, or_true], mem_store y h⟩,
    ⟨Rect.unit ![2, 0] ![1, 16] inb_S4x128_S1x16_2_0, by simp only [stores, List.mem_cons, true_or, or_true], mem_store y h⟩,
    ⟨Rect.unit ![3, 0] ![1, 16] inb_S4x128_S1x16_3_0, by simp only [stores, List.mem_cons, true_or, or_true], mem_store y h⟩,
    ⟨Rect.unit ![0, 16] ![1, 16] inb_S4x128_S1x16_0_16, by simp only [stores, List.mem_cons, true_or, or_true], mem_store y h⟩,
    ⟨Rect.unit ![1, 16] ![1, 16] inb_S4x128_S1x16_1_16, by simp only [stores, List.mem_cons, true_or, or_true], mem_store y h⟩,
    ⟨Rect.unit ![2, 16] ![1, 16] inb_S4x128_S1x16_2_16, by simp only [stores, List.mem_cons, true_or, or_true], mem_store y h⟩,
    ⟨Rect.unit ![3, 16] ![1, 16] inb_S4x128_S1x16_3_16, by simp only [stores, List.mem_cons, true_or, or_true], mem_store y h⟩,
    ⟨Rect.unit ![0, 32] ![1, 16] inb_S4x128_S1x16_0_32, by simp only [stores, List.mem_cons, true_or, or_true], mem_store y h⟩,
    ⟨Rect.unit ![1, 32] ![1, 16] inb_S4x128_S1x16_1_32, by simp only [stores, List.mem_cons, true_or, or_true], mem_store y h⟩,
    ⟨Rect.unit ![2, 32] ![1, 16] inb_S4x128_S1x16_2_32, by simp only [stores, List.mem_cons, true_or, or_true], mem_store y h⟩,
    ⟨Rect.unit ![3, 32] ![1, 16] inb_S4x128_S1x16_3_32, by simp only [stores, List.mem_cons, true_or, or_true], mem_store y h⟩,
    ⟨Rect.unit ![0, 48] ![1, 16] inb_S4x128_S1x16_0_48, by simp only [stores, List.mem_cons, true_or, or_true], mem_store y h⟩,
    ⟨Rect.unit ![1, 48] ![1, 16] inb_S4x128_S1x16_1_48, by simp only [stores, List.mem_cons, true_or, or_true], mem_store y h⟩,
    ⟨Rect.unit ![2, 48] ![1, 16] inb_S4x128_S1x16_2_48, by simp only [stores, List.mem_cons, true_or, or_true], mem_store y h⟩,
    ⟨Rect.unit ![3, 48] ![1, 16] inb_S4x128_S1x16_3_48, by simp only [stores, List.mem_cons, true_or, or_true], mem_store y h⟩,
    ⟨Rect.unit ![0, 64] ![1, 16] inb_S4x128_S1x16_0_64, by simp only [stores, List.mem_cons, true_or, or_true], mem_store y h⟩,
    ⟨Rect.unit ![1, 64] ![1, 16] inb_S4x128_S1x16_1_64, by simp only [stores, List.mem_cons, true_or, or_true], mem_store y h⟩,
    ⟨Rect.unit ![2, 64] ![1, 16] inb_S4x128_S1x16_2_64, by simp only [stores, List.mem_cons, true_or, or_true], mem_store y h⟩,
    ⟨Rect.unit ![3, 64] ![1, 16] inb_S4x128_S1x16_3_64, by simp only [stores, List.mem_cons, true_or, or_true], mem_store y h⟩,
    ⟨Rect.unit ![0, 80] ![1, 16] inb_S4x128_S1x16_0_80, by simp only [stores, List.mem_cons, true_or, or_true], mem_store y h⟩,
    ⟨Rect.unit ![1, 80] ![1, 16] inb_S4x128_S1x16_1_80, by simp only [stores, List.mem_cons, true_or, or_true], mem_store y h⟩,
    ⟨Rect.unit ![2, 80] ![1, 16] inb_S4x128_S1x16_2_80, by simp only [stores, List.mem_cons, true_or, or_true], mem_store y h⟩,
    ⟨Rect.unit ![3, 80] ![1, 16] inb_S4x128_S1x16_3_80, by simp only [stores, List.mem_cons, true_or, or_true], mem_store y h⟩,
    ⟨Rect.unit ![0, 96] ![1, 16] inb_S4x128_S1x16_0_96, by simp only [stores, List.mem_cons, true_or, or_true], mem_store y h⟩,
    ⟨Rect.unit ![1, 96] ![1, 16] inb_S4x128_S1x16_1_96, by simp only [stores, List.mem_cons, true_or, or_true], mem_store y h⟩,
    ⟨Rect.unit ![2, 96] ![1, 16] inb_S4x128_S1x16_2_96, by simp only [stores, List.mem_cons, true_or, or_true], mem_store y h⟩,
    ⟨Rect.unit ![3, 96] ![1, 16] inb_S4x128_S1x16_3_96, by simp only [stores, List.mem_cons, true_or, or_true], mem_store y h⟩,
    ⟨Rect.unit ![0, 112] ![1, 16] inb_S4x128_S1x16_0_112, by simp only [stores, List.mem_cons, true_or, or_true], mem_store y h⟩,
    ⟨Rect.unit ![1, 112] ![1, 16] inb_S4x128_S1x16_1_112, by simp only [stores, List.mem_cons, true_or, or_true], mem_store y h⟩,
    ⟨Rect.unit ![2, 112] ![1, 16] inb_S4x128_S1x16_2_112, by simp only [stores, List.mem_cons, true_or, or_true], mem_store y h⟩,
    ⟨Rect.unit ![3, 112] ![1, 16] inb_S4x128_S1x16_3_112, by simp only [stores, List.mem_cons, true_or, or_true], mem_store y h⟩]

/-- A task that copies its block out with the bias of its counts leaves the bias of all the counts there. -/
theorem block_final (L : grid0.Coords) (cnt : S4x512.Idx → BitVec 32) (f : (biasK L).view.ty.Contents (Elt F)) (w : S4x128.Idx → F .f32)
    (c : S128.Idx → BitVec 32)
    (hc : ∀ l, c l = cnt ((cntK L).view.emb l)) (hw : ∀ x, w x = blockOf c x) :
    ∀ y ∈ biasSet L, (biasK L).view.writes (Elt F) f [⟨Rect.whole S4x128, w⟩] y = biasOf cnt y := by
  intro y hy
  obtain ⟨x, -, rfl⟩ := Finset.mem_map.mp hy
  have h : (biasK L).view.read (Elt F) ((biasK L).view.writes (Elt F) f [⟨Rect.whole S4x128, w⟩]) x = w x := by
    rw [View.read_writes_whole]
  refine (show _ = _ from h).trans ((hw x).trans ?_)
  obtain ⟨b0, b1, b2⟩ := bias_emb L x
  obtain ⟨c0, c1⟩ := cnt_emb L (ix1 (n0 := 128) (x 1))
  show biasVal (c _) _ = biasVal (cnt _) _
  rw [hc]
  congr 1
  · refine congrArg cnt (Shape.idx_ext₂ (n := ![4, 512]) ?_ ?_)
    · exact c0.trans b0.symm
    · exact c1.trans b2.symm
  · exact b1.symm

end Payload

section Tile
variable (d : Dev nD) (L : grid0.Coords)

/-- A buffer owned whole is owned on its view's set: the counts' scratch; -/
theorem pts_cV (f : Buf (Elt F) ((V d (coreOf L) (subOf L)).loc cc0_scratch0)) :
    (cV.view.loc (V d (coreOf L) (subOf L)) ↦{fullShare} f : sProp 𝕄) = (V d (coreOf L) (subOf L)).loc cc0_scratch0 ↦{fullShare} f := rfl
/-- the bias values' scratch; -/
theorem pts_bV (f : Buf (Elt F) ((V d (coreOf L) (subOf L)).loc cc0_scratch1)) :
    (bV.view.loc (V d (coreOf L) (subOf L)) ↦{fullShare} f : sProp 𝕄) = (V d (coreOf L) (subOf L)).loc cc0_scratch1 ↦{fullShare} f := rfl
/-- the task's part of the counts; -/
theorem pts_cntK (f : Buf (Elt F) (cLoc d)) :
    ((cntK L).view.loc (V d (coreOf L) (subOf L)) ↦[(cntK L).view.set]{fullShare} f : sProp 𝕄) = cLoc d ↦[cntSet L]{fullShare} f := rfl
/-- the task's block of the bias. -/
theorem pts_biasK (f : Buf (Elt F) (bLoc d)) :
    ((biasK L).view.loc (V d (coreOf L) (subOf L)) ↦[(biasK L).view.set]{fullShare} f : sProp 𝕄) = bLoc d ↦[biasSet L]{fullShare} f := rfl

/-- The semaphore of the copy in; -/
abbrev semA (d : Dev nD) (c : Fin τ.nSC) (i : Fin τ.nSub) : GSem nD τ sig := (V d c i, .dma cc0_scoped0.sem)
/-- the semaphore of the copy out. -/
abbrev semB (d : Dev nD) (c : Fin τ.nSC) (i : Fin τ.nSub) : GSem nD τ sig := (V d c i, .dma cc0_scoped1.sem)

/-- The two transfers' semaphores are among the subcore's own. -/
theorem ownSems0_V :
    (ownSems0 (V d (coreOf L) (subOf L)) : sProp 𝕄)
      = iprop(semVal (semA d (coreOf L) (subOf L)) 0 ∗ semVal (semB d (coreOf L) (subOf L)) 0
          ∗ bigSep (((ownCells (V d (coreOf L) (subOf L))).erase (semA d (coreOf L) (subOf L))).erase (semB d (coreOf L) (subOf L))) fun g => semVal g 0) := by
  unfold SparseCore.Cfg.ownSems0
  rw [SparseCore.bigSep_erase' ((mem_ownCells (g := semA d (coreOf L) (subOf L))).mpr ⟨rfl, by
      show (SemLoc.dma cc0_scoped0.sem : SemLoc sig).isScoped .scVector = true; decide⟩),
    SparseCore.bigSep_erase' (Finset.mem_erase.mpr ⟨by simp [semA, semB]; decide, (mem_ownCells (g := semB d (coreOf L) (subOf L))).mpr ⟨rfl, by
      show (SemLoc.dma cc0_scoped1.sem : SemLoc sig).isScoped .scVector = true; decide⟩⟩)]

/-- The two scratch buffers are among the subcore's own. -/
theorem ownBufs_V :
    (ownBufs (V d (coreOf L) (subOf L)) : sProp 𝕄)
      = iprop((∃ f, (V d (coreOf L) (subOf L)).loc cc0_scratch0 ↦{fullShare} f) ∗ (∃ f, (V d (coreOf L) (subOf L)).loc cc0_scratch1 ↦{fullShare} f)
          ∗ bigSep (((ownRefs (τ := τ) (.scVector (coreOf L) (subOf L))).erase ((Proc.scVector (coreOf L) (subOf L)).devRef cc0_scratch0)).erase
              ((Proc.scVector (coreOf L) (subOf L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (coreOf L) (subOf L))
    (b := (Proc.scVector (coreOf L) (subOf L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (coreOf L) (subOf L)) (b := (Proc.scVector (coreOf L) (subOf L)).devRef cc0_scratch1) rfl⟩)]

variable [FloatOps F] [Named F]
variable (m : (ℓ : Loc nD τ sig) → Buf (Elt F) ℓ)

/-- Task `L`'s counts, and its block of the bias array at contents `f`. -/
abbrev cntPts (d : Dev nD) (L : grid0.Coords) : sProp 𝕄 := cLoc d ↦[cntSet L]{fullShare} m (cLoc d)
/-- A task's block of the bias array, holding `f`. -/
abbrev biasPts (d : Dev nD) (L : grid0.Coords) (f : Buf (Elt F) (bLoc d)) : sProp 𝕄 := bLoc d ↦[biasSet L]{fullShare} f

/-- The counts as the run finds them. -/
abbrev cntAt (d : Dev nD) : S4x512.Idx → BitVec 32 := m (cLoc d)

set_option maxHeartbeats 4000000 in
/-- The task on vector subcore `L` of device `d`: its counts back unchanged, its block of the bias array written. -/
theorem tile_body (hF : (K (F := F)).Facts) (O : CellTallies nD τ sig (HIx 1)) (W : Waits sig (HIx 1)) (hO : ∀ g, O g none = 0) :
    iprop(levAts (K (F := F)).L (K (F := F)).lev ∗ emp
        ∗ (cntPts m d L ∗ biasPts d L (m (bLoc d)))
        ∗ scopedBufs (V d (coreOf L) (subOf L)) ∗ scopedSems0 (V d (coreOf L) (subOf L)) ∗ owes (V d (coreOf L) (subOf L)) O W)
      ⊢ wp frame (wpE (defs₀ (F := F)) 𝒱₀ (V d (coreOf L) (subOf L)) none) Set.univ
          (cc0__sc_bias_body L cntV (Memref.isWhole_whole _) biasV (Memref.isWhole_whole _) cV (Memref.isWhole_whole _)
            bV (Memref.isWhole_whole _) cc0_scratch2 cc0_scoped0 cc0_scoped1)
          fun _ => iprop((cntPts m d L ∗ biasPts d L (biasOf (cntAt m d)))
            ∗ scopedBufs (V d (coreOf L) (subOf L)) ∗ scopedSems0 (V d (coreOf L) (subOf L))
            ∗ ∃ W', ⌜∀ p ∈ W', p ∈ W ∨ p.2 = none⌝ ∗ owes (V d (coreOf L) (subOf L)) O W') := by
  simp only [cc0__sc_bias_body_eq_skeleton]; unfold cc0__sc_bias_body_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  rw [(K (F := F)).scopedBufs_V hF d (coreOf L) (subOf L), SparseCore.Cfg.scopedSems0_V (Val := Elt F) d (coreOf L) (subOf L), ownSems0_V, ownBufs_V]
  iintro ⟨#Hlv, -, ⟨Hi, Ho⟩, ⟨⟨%fs, Hs⟩, ⟨%fr, Hr⟩, Hbufs⟩, ⟨HsemA, HsemB, Hsems⟩, HO⟩
  ihave Hmw := (show levAts (K (F := F)).L (K (F := F)).lev ⊢ Transfers.MayWaits (V d (coreOf L) (subOf L)) (default : HIx 1) O from
    (K (F := F)).mayWaits_none (thr := V d (coreOf L) (subOf L)) hO) $$ Hlv
  ihave Hi' := (Entails.of_eq (pts_cntK (F := F) d L _).symm) $$ Hi
  ihave Ho' := (Entails.of_eq (pts_biasK (F := F) d L _).symm) $$ Ho
  ihave Hs' := (Entails.of_eq (pts_cV (F := F) d L _).symm) $$ Hs
  ihave Hr' := (Entails.of_eq (pts_bV (F := F) d L _).symm) $$ Hr
  sl_exec
  have hw : ∀ x, tile_body.sl.dma72 d L m fs fr x = blockOf (tile_body.sl.dma0 d L m) x := fun x => by
    refine read_pieces bV.view fr (blockOf (tile_body.sl.dma0 d L m)) x (tile_body.sl.Hr'_32 d L m fs fr) ?_ ?_
    · unfold tile_body.sl.Hr'_32
      dsimp only
      refine pieces_cons _ _ _ _ (pay_block fs (tile_body.sl.dma0 d L m) 112 inb_S128_S16_112 3 inb_S4x128_S1x16_3_112 _ rfl) ?_
      refine pieces_cons _ _ _ _ (pay_block fs (tile_body.sl.dma0 d L m) 112 inb_S128_S16_112 2 inb_S4x128_S1x16_2_112 _ rfl) ?_
      refine pieces_cons _ _ _ _ (pay_block fs (tile_body.sl.dma0 d L m) 112 inb_S128_S16_112 1 inb_S4x128_S1x16_1_112 _ rfl) ?_
      refine pieces_cons _ _ _ _ (pay_block fs (tile_body.sl.dma0 d L m) 112 inb_S128_S16_112 0 inb_S4x128_S1x16_0_112 _ rfl) ?_
      refine pieces_cons _ _ _ _ (pay_block fs (tile_body.sl.dma0 d L m) 96 inb_S128_S16_96 3 inb_S4x128_S1x16_3_96 _ rfl) ?_
      refine pieces_cons _ _ _ _ (pay_block fs (tile_body.sl.dma0 d L m) 96 inb_S128_S16_96 2 inb_S4x128_S1x16_2_96 _ rfl) ?_
      refine pieces_cons _ _ _ _ (pay_block fs (tile_body.sl.dma0 d L m) 96 inb_S128_S16_96 1 inb_S4x128_S1x16_1_96 _ rfl) ?_
      refine pieces_cons _ _ _ _ (pay_block fs (tile_body.sl.dma0 d L m) 96 inb_S128_S16_96 0 inb_S4x128_S1x16_0_96 _ rfl) ?_
      refine pieces_cons _ _ _ _ (pay_block fs (tile_body.sl.dma0 d L m) 80 inb_S128_S16_80 3 inb_S4x128_S1x16_3_80 _ rfl) ?_
      refine pieces_cons _ _ _ _ (pay_block fs (tile_body.sl.dma0 d L m) 80 inb_S128_S16_80 2 inb_S4x128_S1x16_2_80 _ rfl) ?_
      refine pieces_cons _ _ _ _ (pay_block fs (tile_body.sl.dma0 d L m) 80 inb_S128_S16_80 1 inb_S4x128_S1x16_1_80 _ rfl) ?_
      refine pieces_cons _ _ _ _ (pay_block fs (tile_body.sl.dma0 d L m) 80 inb_S128_S16_80 0 inb_S4x128_S1x16_0_80 _ rfl) ?_
      refine pieces_cons _ _ _ _ (pay_block fs (tile_body.sl.dma0 d L m) 64 inb_S128_S16_64 3 inb_S4x128_S1x16_3_64 _ rfl) ?_
      refine pieces_cons _ _ _ _ (pay_block fs (tile_body.sl.dma0 d L m) 64 inb_S128_S16_64 2 inb_S4x128_S1x16_2_64 _ rfl) ?_
      refine pieces_cons _ _ _ _ (pay_block fs (tile_body.sl.dma0 d L m) 64 inb_S128_S16_64 1 inb_S4x128_S1x16_1_64 _ rfl) ?_
      refine pieces_cons _ _ _ _ (pay_block fs (tile_body.sl.dma0 d L m) 64 inb_S128_S16_64 0 inb_S4x128_S1x16_0_64 _ rfl) ?_
      refine pieces_cons _ _ _ _ (pay_block fs (tile_body.sl.dma0 d L m) 48 inb_S128_S16_48 3 inb_S4x128_S1x16_3_48 _ rfl) ?_
      refine pieces_cons _ _ _ _ (pay_block fs (tile_body.sl.dma0 d L m) 48 inb_S128_S16_48 2 inb_S4x128_S1x16_2_48 _ rfl) ?_
      refine pieces_cons _ _ _ _ (pay_block fs (tile_body.sl.dma0 d L m) 48 inb_S128_S16_48 1 inb_S4x128_S1x16_1_48 _ rfl) ?_
      refine pieces_cons _ _ _ _ (pay_block fs (tile_body.sl.dma0 d L m) 48 inb_S128_S16_48 0 inb_S4x128_S1x16_0_48 _ rfl) ?_
      refine pieces_cons _ _ _ _ (pay_block fs (tile_body.sl.dma0 d L m) 32 inb_S128_S16_32 3 inb_S4x128_S1x16_3_32 _ rfl) ?_
      refine pieces_cons _ _ _ _ (pay_block fs (tile_body.sl.dma0 d L m) 32 inb_S128_S16_32 2 inb_S4x128_S1x16_2_32 _ rfl) ?_
      refine pieces_cons _ _ _ _ (pay_block fs (tile_body.sl.dma0 d L m) 32 inb_S128_S16_32 1 inb_S4x128_S1x16_1_32 _ rfl) ?_
      refine pieces_cons _ _ _ _ (pay_block fs (tile_body.sl.dma0 d L m) 32 inb_S128_S16_32 0 inb_S4x128_S1x16_0_32 _ rfl) ?_
      refine pieces_cons _ _ _ _ (pay_block fs (tile_body.sl.dma0 d L m) 16 inb_S128_S16_16 3 inb_S4x128_S1x16_3_16 _ rfl) ?_
      refine pieces_cons _ _ _ _ (pay_block fs (tile_body.sl.dma0 d L m) 16 inb_S128_S16_16 2 inb_S4x128_S1x16_2_16 _ rfl) ?_
      refine pieces_cons _ _ _ _ (pay_block fs (tile_body.sl.dma0 d L m) 16 inb_S128_S16_16 1 inb_S4x128_S1x16_1_16 _ rfl) ?_
      refine pieces_cons _ _ _ _ (pay_block fs (tile_body.sl.dma0 d L m) 16 inb_S128_S16_16 0 inb_S4x128_S1x16_0_16 _ rfl) ?_
      refine pieces_cons _ _ _ _ (pay_block fs (tile_body.sl.dma0 d L m) 0 inb_S128_S16_0 3 inb_S4x128_S1x16_3_0 _ rfl) ?_
      refine pieces_cons _ _ _ _ (pay_block fs (tile_body.sl.dma0 d L m) 0 inb_S128_S16_0 2 inb_S4x128_S1x16_2_0 _ rfl) ?_
      refine pieces_cons _ _ _ _ (pay_block fs (tile_body.sl.dma0 d L m) 0 inb_S128_S16_0 1 inb_S4x128_S1x16_1_0 _ rfl) ?_
      refine pieces_cons _ _ _ _ (pay_block fs (tile_body.sl.dma0 d L m) 0 inb_S128_S16_0 0 inb_S4x128_S1x16_0_0 _ rfl) ?_
      exact fun _ h => absurd h List.not_mem_nil
    · obtain ⟨r, hr, hx⟩ := cover_block x
      obtain ⟨p, hp, rfl⟩ := List.mem_map.mp (show r ∈ (tile_body.sl.Hr'_32 d L m fs fr).map Sigma.fst from hr)
      exact ⟨p, hp, hx⟩
  sl_step
  isplitl [Hi' Ho']
  · isplitl [Hi']; · iexact Hi'
    iapply (Entails.of_eq (pointsTo_congr (ℓ := bLoc d) (q := fullShare) (block_final L (cntAt m d) _ _ _ (fun _ => rfl) hw))); iexact Ho'
  isplitl [Hs' Hr' Hbufs]
  · isplitl [Hs']; · iexists _; iexact Hs'
    isplitl [Hr']; · iexists _; iexact Hr'
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Tile
end Cert.Proof.Attn

end
-- ==== Proof.Split.lean ====
/-
  The SparseCore call: what its handshakes carry, each task's obligation, and how the counts and the bias array split
  into the sixteen tasks' blocks and join again.
-/
module

public import proofs.«01_k».proof.Proof.Bias

@[expose] public section

noncomputable section

namespace Cert.Proof.Attn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## The tasks -/

/-- The grid coordinates of a pair of SparseCore and vector subcore. -/
def coordsV (c : Fin (grid0.bound 0)) (s : Fin (grid0.bound 1)) : grid0.Coords :=
  fun | 0 => c | 1 => s | ⟨_ + 2, h⟩ => absurd h (Nat.not_lt.2 (Nat.le_add_left _ _))

/-- The task of vector subcore `i`. -/
abbrev task (i : Fin 16) : grid0.Coords := coordsV ⟨0, by decide⟩ ⟨i.val, i.isLt⟩

/-- The call runs sixteen tasks. -/
theorem nSub_zero : (K (F := F)).nSub 0 = 16 := rfl

/-- A count belongs to task `i` when its batch and its 128 tokens do; -/
theorem mem_cntSet (i : Fin 16) (y : S4x512.Idx) :
    y ∈ cntSet (task i) ↔ (y 0).val = i.val / 4 ∧ i.val % 4 * 128 ≤ (y 1).val ∧ (y 1).val < i.val % 4 * 128 + 128 := by
  constructor
  · intro h
    obtain ⟨l, -, rfl⟩ := Finset.mem_map.mp h
    obtain ⟨h0, h1⟩ := cnt_emb (task i) l
    have hl : (l 0).val < 128 := (l 0).isLt
    exact ⟨h0, by rw [h1]; exact Nat.le_add_right _ _, by rw [h1]; exact Nat.add_lt_add_left hl _⟩
  · rintro ⟨h0, h1, h2⟩
    obtain ⟨e0, e1⟩ := cnt_emb (task i) (ix1 (n0 := 128) ⟨(y 1).val - i.val % 4 * 128, by omega⟩)
    refine Finset.mem_map.mpr ⟨ix1 (n0 := 128) ⟨(y 1).val - i.val % 4 * 128, by omega⟩, Finset.mem_univ _, ?_⟩
    refine Shape.idx_ext₂ (n := ![4, 512]) (e0.trans h0.symm) (e1.trans ?_)
    show i.val % 4 * 128 + ((y 1).val - i.val % 4 * 128) = _; omega

/-- so does an element of the bias, whatever its slot. -/
theorem mem_biasSet (i : Fin 16) (y : S4x4x512.Idx) :
    y ∈ biasSet (task i) ↔ (y 0).val = i.val / 4 ∧ i.val % 4 * 128 ≤ (y 2).val ∧ (y 2).val < i.val % 4 * 128 + 128 := by
  constructor
  · intro h
    obtain ⟨x, -, rfl⟩ := Finset.mem_map.mp h
    obtain ⟨h0, -, h1⟩ := bias_emb (task i) x
    have hl : (x 1).val < 128 := (x 1).isLt
    exact ⟨h0, by rw [h1]; exact Nat.le_add_right _ _, by rw [h1]; exact Nat.add_lt_add_left hl _⟩
  · rintro ⟨h0, h1, h2⟩
    obtain ⟨e0, e1, e2⟩ := bias_emb (task i) (ix2 (n0 := 4) (n1 := 128) (y 1) ⟨(y 2).val - i.val % 4 * 128, by omega⟩)
    refine Finset.mem_map.mpr ⟨ix2 (n0 := 4) (n1 := 128) (y 1) ⟨(y 2).val - i.val % 4 * 128, by omega⟩, Finset.mem_univ _, ?_⟩
    funext a
    refine Fin.ext ?_
    match a with
    | 0 => exact e0.trans h0.symm
    | 1 => exact e1
    | 2 => refine e2.trans ?_; show i.val % 4 * 128 + ((y 2).val - i.val % 4 * 128) = _; omega

/-- No two tasks share a count; -/
theorem cnt_disjoint : ∀ i ∈ (Finset.univ : Finset (Fin 16)), ∀ j ∈ (Finset.univ : Finset (Fin 16)), i ≠ j →
    Disjoint (cntSet (task i)) (cntSet (task j)) := fun i _ j _ h => Finset.disjoint_left.mpr fun y hi hj => h (Fin.ext (by
  rw [mem_cntSet] at hi hj; omega))
/-- nor an element of the bias; -/
theorem bias_disjoint : ∀ i ∈ (Finset.univ : Finset (Fin 16)), ∀ j ∈ (Finset.univ : Finset (Fin 16)), i ≠ j →
    Disjoint (biasSet (task i)) (biasSet (task j)) := fun i _ j _ h => Finset.disjoint_left.mpr fun y hi hj => h (Fin.ext (by
  rw [mem_biasSet] at hi hj; omega))
/-- together the tasks have every count; -/
theorem cnt_cover : ((Finset.univ : Finset (Fin 16)).biUnion fun i => cntSet (task i)) = Finset.univ :=
  Finset.eq_univ_iff_forall.mpr fun y => by
    have h0 : (y 0).val < 4 := (y 0).isLt
    have h1 : (y 1).val < 512 := (y 1).isLt
    exact Finset.mem_biUnion.mpr ⟨⟨(y 0).val * 4 + (y 1).val / 128, by omega⟩, Finset.mem_univ _, (mem_cntSet _ _).mpr (by dsimp only; omega)⟩
/-- and the whole bias. -/
theorem bias_cover : ((Finset.univ : Finset (Fin 16)).biUnion fun i => biasSet (task i)) = Finset.univ :=
  Finset.eq_univ_iff_forall.mpr fun y => by
    have h0 : (y 0).val < 4 := (y 0).isLt
    have h1 : (y 2).val < 512 := (y 2).isLt
    exact Finset.mem_biUnion.mpr ⟨⟨(y 0).val * 4 + (y 2).val / 128, by omega⟩, Finset.mem_univ _, (mem_biasSet _ _).mpr (by dsimp only; omega)⟩

/-- The counts, and the bias array, are their sixteen tasks' blocks. -/
theorem cnt_split (d : Dev nD) (f : Buf (Elt F) (cLoc d)) :
    (cLoc d ↦{fullShare} f : sProp 𝕄) = bigSep Finset.univ fun i : Fin 16 => cLoc d ↦[cntSet (task i)]{fullShare} f := by
  rw [← pointsTo_biUnion Finset.univ (ℓ := cLoc d) (fun i => cntSet (task i)) cnt_disjoint, cnt_cover]; try rfl
/-- The bias array is its sixteen blocks. -/
theorem bias_split (d : Dev nD) (f : Buf (Elt F) (bLoc d)) :
    (bLoc d ↦{fullShare} f : sProp 𝕄) = bigSep Finset.univ fun i : Fin 16 => bLoc d ↦[biasSet (task i)]{fullShare} f := by
  rw [← pointsTo_biUnion Finset.univ (ℓ := bLoc d) (fun i => biasSet (task i)) bias_disjoint, bias_cover]; try rfl

variable [FloatOps F] [Named F]
variable (m : (ℓ : Loc nD τ sig) → Buf (Elt F) ℓ)

/-! ## What the handshakes carry -/

/-- The counts, whole, as the run finds them. -/
abbrev cPts (d : Dev nD) : sProp 𝕄 := cLoc d ↦{fullShare} m (cLoc d)
/-- The bias array, whole, holding `f`. -/
abbrev bPts (d : Dev nD) (f : Buf (Elt F) (bLoc d)) : sProp 𝕄 := bLoc d ↦{fullShare} f

/-- The one call takes the counts and the bias array whole; each task its block of either, and brings them back, the
    bias array's at the bias of the counts. -/
def P : (K (F := F)).Pay (nD := nD) (Val := Elt F) (Name := ℕ) (U := UU) where
  st := fun q d _ => match q with | 0 => iprop(cPts m d ∗ bPts d (m (bLoc d)))
  dn := fun q d _ => match q with | 0 => iprop(cPts m d ∗ bPts d (biasOf (cntAt m d)))
  go := fun q d _ i => match q with
    | 0 => iprop(cntPts m d (task (Fin.cast nSub_zero i)) ∗ biasPts d (task (Fin.cast nSub_zero i)) (m (bLoc d)))
  td := fun q d _ i => match q with
    | 0 => iprop(cntPts m d (task (Fin.cast nSub_zero i)) ∗ biasPts d (task (Fin.cast nSub_zero i)) (biasOf (cntAt m d)))
  x := fun _ _ => iprop(emp)

/-- What the handshakes carry can be stored. -/
instance P_storable : (P (F := F) m).IsStorable where
  st q d _ := match q with
    | 0 => (inferInstance : BI.Storable (upEmb : UEmb _ 𝕄) iprop(cPts m d ∗ bPts d (m (bLoc d))))
  dn q d _ := match q with
    | 0 => (inferInstance : BI.Storable (upEmb : UEmb _ 𝕄) iprop(cPts m d ∗ bPts d (biasOf (cntAt m d))))
  go q d _ i := match q with
    | 0 => (inferInstance : BI.Storable (upEmb : UEmb _ 𝕄)
      iprop(cntPts m d (task (Fin.cast nSub_zero i)) ∗ biasPts d (task (Fin.cast nSub_zero i)) (m (bLoc d))))
  td q d _ i := match q with
    | 0 => (inferInstance : BI.Storable (upEmb : UEmb _ 𝕄)
      iprop(cntPts m d (task (Fin.cast nSub_zero i)) ∗ biasPts d (task (Fin.cast nSub_zero i)) (biasOf (cntAt m d))))

/-! ## The tasks' obligation -/

/-- The tile's program is the generated body. -/
theorem defs₀_vector (c : Fin τ.nSC) (s : Fin τ.nSub) :
    defs₀ (F := F) (.scVector c s) 0 ()
      = SparseCore.onTile hcore0 hsub0 (fun c s => cc0__sc_bias_body (coordsV c s)
          cntV (Memref.isWhole_whole _) biasV (Memref.isWhole_whole _) cV (Memref.isWhole_whole _) bV (Memref.isWhole_whole _)
          cc0_scratch2 cc0_scoped0 cc0_scoped1) ⟨⟩ c s := rfl

omit [FloatOps F] [Named F] in
/-- What a task ends with, weakened: waits of the call itself are allowed besides. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile does its task. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  obtain rfl : c = (0 : Fin 1) := Subsingleton.elim (α := Fin 1) _ _
  exact (tile_body d (task (Fin.cast nSub_zero i)) m hF O W hO).trans (wp_mono frame _ _ fun _ => obl_post)

/-! ## The call's operands split and join -/

omit [FloatOps F] [Named F] in
/-- A product over the call's tasks is one over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The operands split among the tiles and join again. -/
theorem vecSplit : (K (F := F)).VecSplit' (P m) 0 := by
  intro d c
  show iprop(cPts m d ∗ bPts d (m (bLoc d))) ⊢ |={Set.univ}=> iprop(
      (bigSep Finset.univ fun i : Fin ((K (F := F)).nSub 0) =>
        iprop(cntPts m d (task (Fin.cast nSub_zero i)) ∗ biasPts d (task (Fin.cast nSub_zero i)) (m (bLoc d))))
      ∗ ((bigSep Finset.univ fun i : Fin ((K (F := F)).nSub 0) =>
          iprop(cntPts m d (task (Fin.cast nSub_zero i)) ∗ biasPts d (task (Fin.cast nSub_zero i)) (biasOf (cntAt m d))))
          -∗ iprop(cPts m d ∗ bPts d (biasOf (cntAt m d)))))
  rw [bigSep_tasks (F := F) (fun i => iprop(cntPts m d (task i) ∗ biasPts d (task i) (m (bLoc d)))),
    bigSep_tasks (F := F) (fun i => iprop(cntPts m d (task i) ∗ biasPts d (task i) (biasOf (cntAt m d)))), bigSep_sep', bigSep_sep']
  unfold cPts bPts cntPts biasPts
  rw [cnt_split, bias_split, bias_split]
  iintro H; imodintro
  isplitl [H]; · iexact H
  iintro H; iexact H

end Cert.Proof.Attn

end
-- ==== Proof.Tc.lean ====
/-
  The TensorCore kernel's body at a grid point: from its twelve input blocks it leaves the attention output of the
  batch in its result block, and the inputs as they were.
-/
module

public import proofs.«01_k».proof.Proof.Setup
public import Idealize.ShloMosaic.Lib.Pipeline.ValueKit

@[expose] public section

noncomputable section

namespace Cert.Proof.Attn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] [Named F]

/-! ## What the body computes -/

/-- The rows of `s`, normalized and affinely transformed; -/
abbrev sN (X0 : Vec F S1x512x512 .f32) (X8 X9 : Vec F S1x512 .f32) : FVec F S512x512 .bf16 := k1_pay2 X0 X8 X9
/-- the rows of `a`; -/
abbrev aN (X1 : Vec F S1x2048x128 .f32) (X10 X11 : Vec F S1x128 .f32) : FVec F S2048x128 .bf16 :=
  k1_pay7 (k1_pay3 X1) (k1_pay4 X10) (k1_pay5 X11) (k1_pay6 X1)
/-- the heads' indicator in the narrow format, for the scores; -/
abbrev headsN : FVec F S4x128 .bf16 :=
  k1_pay16 (iota .tc S4x128 32 [0] iota_S4x128_d0_w32) (iota .tc S4x128 32 [1] iota_S4x128_d1_w32) 32#32 k1_pay13 k1_pay14 k1_pay15
/-- and in the wide one, for the weights. -/
abbrev headsW : FVec F S4x128 .f32 := k1_pay20 (iota .tc S4x128 32 [0] iota_S4x128_d0_w32) k1_pay17 k1_pay18 k1_pay19

/-- The result block from the twelve input blocks: `s`, `a`, the bias, the query, key, value, gate and output weights,
    and the four normalization vectors. -/
def attnVal (X0 : Vec F S1x512x512 .f32) (X1 : Vec F S1x2048x128 .f32) (X2 : Vec F S1x4x512 .f32) (X3 : Vec F S512x128 .f32) (X4 : Vec F S128x128 .f32) (X5 : Vec F S128x128 .f32) (X6 : Vec F S512x128 .f32) (X7 : Vec F S128x512 .f32) (X8 : Vec F S1x512 .f32) (X9 : Vec F S1x512 .f32) (X10 : Vec F S1x128 .f32) (X11 : Vec F S1x128 .f32) : FVec F S1x512x512 .f32 :=
  k1_pay1 (k1_pay36 (k1_pay12 X7) headsW (k1_pay22 (sN X0 X8 X9) (k1_pay11 X6))
    (k1_pay25 (aN X1 X10 X11) (k1_pay10 X5)) (k1_pay26 (sN X0 X8 X9) (aN X1 X10 X11) (k1_pay8 X3) (k1_pay9 X4) headsN)
    (k1_pay28 (aN X1 X10 X11) (k1_pay10 X5)) (k1_pay29 (sN X0 X8 X9) (aN X1 X10 X11) (k1_pay8 X3) (k1_pay9 X4) headsN)
    (k1_pay31 (aN X1 X10 X11) (k1_pay10 X5)) (k1_pay32 (sN X0 X8 X9) (aN X1 X10 X11) (k1_pay8 X3) (k1_pay9 X4) headsN)
    (k1_pay34 (aN X1 X10 X11) (k1_pay10 X5)) (k1_pay35 (sN X0 X8 X9) (aN X1 X10 X11) (k1_pay8 X3) (k1_pay9 X4) headsN) X2)

/-- A load of a whole block reads the block. -/
theorem load_whole {κ : Kind} {sp : Space} {S : Shape} {e : EltTy} (v : View sig κ sp S e) (f : v.ty.Contents (Elt F)) {off : Fin S.rank → ℕ}
    (h : off = fun _ => 0) (inb : ∀ a, off a + S.size a ≤ S.size a) :
    View.readAt (Elt F) v (Rect.unit off S.size inb).toLoadRect f = v.read (Elt F) f := View.ld_unit_zero h inb (v.read (Elt F) f)

/-- A store of a whole block leaves the block stored. -/
theorem store_whole {κ : Kind} {sp : Space} {S : Shape} {e : EltTy} (v : View sig κ sp S e) (f : v.ty.Contents (Elt F)) {off : Fin S.rank → ℕ}
    (h : off = fun _ => 0) (inb : ∀ a, off a + S.size a ≤ S.size a) (x : S.Idx → Elt F e) :
    v.read (Elt F) (v.writes (Elt F) f [⟨Rect.unit off S.size inb, x⟩]) = x := by
  subst h
  exact View.read_writes_whole v f x

/-- Offsets of zero, in two dimensions; -/
theorem zero2 : (![0, 0] : Fin 2 → ℕ) = fun _ => 0 := by decide
/-- in three. -/
theorem zero3 : (![0, 0, 0] : Fin 3 → ℕ) = fun _ => 0 := by decide

/-! ## The body, run once -/

set_option maxHeartbeats 4000000 in
/-- The body's triple: the input blocks kept, the result block at `attnVal`. -/
theorem tcRun (d : Dev nD) (i : grid1.Coords) (arg1 : Memref sig .tc .vmem S1x512x512 .f32) (harg1 : arg1.IsWhole) (arg2 : Memref sig .tc .vmem S1x2048x128 .f32) (harg2 : arg2.IsWhole) (arg3 : Memref sig .tc .vmem S1x4x512 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x512x512 .f32) (harg13 : arg13.IsWhole)
    (X0 : Vec F S1x512x512 .f32) (X1 : Vec F S1x2048x128 .f32) (X2 : Vec F S1x4x512 .f32) (X3 : Vec F S512x128 .f32) (X4 : Vec F S128x128 .f32) (X5 : Vec F S128x128 .f32) (X6 : Vec F S512x128 .f32) (X7 : Vec F S128x512 .f32) (X8 : Vec F S1x512 .f32) (X9 : Vec F S1x512 .f32) (X10 : Vec F S1x128 .f32) (X11 : Vec F S1x128 .f32) :
    iprop(owns (T d) arg1 fullShare X0 ∗ owns (T d) arg2 fullShare X1 ∗ owns (T d) arg3 fullShare X2 ∗ owns (T d) arg4 fullShare X3 ∗ owns (T d) arg5 fullShare X4 ∗ owns (T d) arg6 fullShare X5 ∗ owns (T d) arg7 fullShare X6 ∗ owns (T d) arg8 fullShare X7 ∗ owns (T d) arg9 fullShare X8 ∗ owns (T d) arg10 fullShare X9 ∗ owns (T d) arg11 fullShare X10 ∗ owns (T d) arg12 fullShare X11 ∗ ∃ y, owns (T d) arg13 fullShare y)
      ⊢ wp frame (wpE (defs₀ (F := F)) 𝒱₀ (T d) none) Set.univ (cc1__tc_body i arg1 harg1 arg2 harg2 arg3 harg3 arg4 harg4 arg5 harg5 arg6 harg6 arg7 harg7 arg8 harg8 arg9 harg9 arg10 harg10 arg11 harg11 arg12 harg12 arg13 harg13)
          fun _ => (iprop(owns (T d) arg1 fullShare X0 ∗ owns (T d) arg2 fullShare X1 ∗ owns (T d) arg3 fullShare X2 ∗ owns (T d) arg4 fullShare X3 ∗ owns (T d) arg5 fullShare X4 ∗ owns (T d) arg6 fullShare X5 ∗ owns (T d) arg7 fullShare X6 ∗ owns (T d) arg8 fullShare X7 ∗ owns (T d) arg9 fullShare X8 ∗ owns (T d) arg10 fullShare X9 ∗ owns (T d) arg11 fullShare X10 ∗ owns (T d) arg12 fullShare X11 ∗ owns (T d) arg13 fullShare (attnVal X0 X1 X2 X3 X4 X5 X6 X7 X8 X9 X10 X11)) : sProp 𝕄) := by
  simp only [cc1__tc_body_eq_skeleton]; unfold cc1__tc_body_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%y, %f12, -, H12⟩⟩
  sl_exec
  sl_step
  isplitl [H0]
  · iexists f0; isplitr
    · ipureintro; exact h0
    · iexact H0
  isplitl [H1]
  · iexists f1; isplitr
    · ipureintro; exact h1
    · iexact H1
  isplitl [H2]
  · iexists f2; isplitr
    · ipureintro; exact h2
    · iexact H2
  isplitl [H3]
  · iexists f3; isplitr
    · ipureintro; exact h3
    · iexact H3
  isplitl [H4]
  · iexists f4; isplitr
    · ipureintro; exact h4
    · iexact H4
  isplitl [H5]
  · iexists f5; isplitr
    · ipureintro; exact h5
    · iexact H5
  isplitl [H6]
  · iexists f6; isplitr
    · ipureintro; exact h6
    · iexact H6
  isplitl [H7]
  · iexists f7; isplitr
    · ipureintro; exact h7
    · iexact H7
  isplitl [H8]
  · iexists f8; isplitr
    · ipureintro; exact h8
    · iexact H8
  isplitl [H9]
  · iexists f9; isplitr
    · ipureintro; exact h9
    · iexact H9
  isplitl [H10]
  · iexists f10; isplitr
    · ipureintro; exact h10
    · iexact H10
  isplitl [H11]
  · iexists f11; isplitr
    · ipureintro; exact h11
    · iexact H11
  iexists _; isplitr
  swap
  · iexact H12
  ipureintro
  dsimp only
  have e0 : View.readAt (Elt F) arg1.view (Rect.unit (s := S1x512x512) ![0, 0, 0] ![1, 512, 512] inb_S1x512x512_S1x512x512_0_0_0).toLoadRect f0 = X0 :=
    (load_whole arg1.view f0 zero3 inb_S1x512x512_S1x512x512_0_0_0).trans h0
  have e1 : View.readAt (Elt F) arg2.view (Rect.unit (s := S1x2048x128) ![0, 0, 0] ![1, 2048, 128] inb_S1x2048x128_S1x2048x128_0_0_0).toLoadRect f1 = X1 :=
    (load_whole arg2.view f1 zero3 inb_S1x2048x128_S1x2048x128_0_0_0).trans h1
  have e2 : View.readAt (Elt F) arg3.view (Rect.unit (s := S1x4x512) ![0, 0, 0] ![1, 4, 512] inb_S1x4x512_S1x4x512_0_0_0).toLoadRect f2 = X2 :=
    (load_whole arg3.view f2 zero3 inb_S1x4x512_S1x4x512_0_0_0).trans h2
  have e3 : View.readAt (Elt F) arg4.view (Rect.unit (s := S512x128) ![0, 0] ![512, 128] inb_S512x128_S512x128_0_0).toLoadRect f3 = X3 :=
    (load_whole arg4.view f3 zero2 inb_S512x128_S512x128_0_0).trans h3
  have e4 : View.readAt (Elt F) arg5.view (Rect.unit (s := S128x128) ![0, 0] ![128, 128] inb_S128x128_S128x128_0_0).toLoadRect f4 = X4 :=
    (load_whole arg5.view f4 zero2 inb_S128x128_S128x128_0_0).trans h4
  have e5 : View.readAt (Elt F) arg6.view (Rect.unit (s := S128x128) ![0, 0] ![128, 128] inb_S128x128_S128x128_0_0).toLoadRect f5 = X5 :=
    (load_whole arg6.view f5 zero2 inb_S128x128_S128x128_0_0).trans h5
  have e6 : View.readAt (Elt F) arg7.view (Rect.unit (s := S512x128) ![0, 0] ![512, 128] inb_S512x128_S512x128_0_0).toLoadRect f6 = X6 :=
    (load_whole arg7.view f6 zero2 inb_S512x128_S512x128_0_0).trans h6
  have e7 : View.readAt (Elt F) arg8.view (Rect.unit (s := S128x512) ![0, 0] ![128, 512] inb_S128x512_S128x512_0_0).toLoadRect f7 = X7 :=
    (load_whole arg8.view f7 zero2 inb_S128x512_S128x512_0_0).trans h7
  have e8 : View.readAt (Elt F) arg9.view (Rect.unit (s := S1x512) ![0, 0] ![1, 512] inb_S1x512_S1x512_0_0).toLoadRect f8 = X8 :=
    (load_whole arg9.view f8 zero2 inb_S1x512_S1x512_0_0).trans h8
  have e9 : View.readAt (Elt F) arg10.view (Rect.unit (s := S1x512) ![0, 0] ![1, 512] inb_S1x512_S1x512_0_0).toLoadRect f9 = X9 :=
    (load_whole arg10.view f9 zero2 inb_S1x512_S1x512_0_0).trans h9
  have e10 : View.readAt (Elt F) arg11.view (Rect.unit (s := S1x128) ![0, 0] ![1, 128] inb_S1x128_S1x128_0_0).toLoadRect f10 = X10 :=
    (load_whole arg11.view f10 zero2 inb_S1x128_S1x128_0_0).trans h10
  have e11 : View.readAt (Elt F) arg12.view (Rect.unit (s := S1x128) ![0, 0] ![1, 128] inb_S1x128_S1x128_0_0).toLoadRect f11 = X11 :=
    (load_whole arg12.view f11 zero2 inb_S1x128_S1x128_0_0).trans h11
  simp only [e0, e1, e2, e3, e4, e5, e6, e7, e8, e9, e10, e11]
  exact store_whole arg13.view f12 zero3 inb_S1x512x512_S1x512x512_0_0_0 _

end Cert.Proof.Attn

end
-- ==== Proof.Region.lean ====
/-
  The TensorCore call's pipeline: what each window's staging buffer holds at each grid point, the body's obligation
  there, and the call as one step from the arrays at the call's start to the arrays at its end.
-/
module

public import proofs.«01_k».proof.Proof.Split
public import proofs.«01_k».proof.Proof.Tc
public import Idealize.ShloMosaic.Lib.Pipeline.ValueKit

@[expose] public section

noncomputable section

namespace Cert.Proof.Attn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] [Named F]
variable (m : (ℓ : Loc nD τ sig) → Buf (Elt F) ℓ)

/-! ## The arrays at the call -/

/-- The operations before the SparseCore call: the four normalization vectors as one-row matrices. -/
def ops0 : List (HloOp τ sig (Elt F)) :=
  [StableHlo.reshape main_arg10 main_v0 (rfl : (.f32 : EltTy) = .f32) shapeCasts_S512_S1x512,
   StableHlo.reshape main_arg11 main_v1 (rfl : (.f32 : EltTy) = .f32) shapeCasts_S512_S1x512,
   StableHlo.reshape main_arg12 main_v2 (rfl : (.f32 : EltTy) = .f32) shapeCasts_S128_S1x128,
   StableHlo.reshape main_arg13 main_v3 (rfl : (.f32 : EltTy) = .f32) shapeCasts_S128_S1x128]

/-- The arrays at launch; -/
abbrev V0 (d : Dev nD) : Valuation τ sig (Elt F) := fun b => m (d, b)
/-- after the four operations; -/
def V1 (d : Dev nD) : Valuation τ sig (Elt F) := StableHlo.after ops0 (V0 m d)
/-- and after the SparseCore call, which fills the bias array. -/
def V2 (d : Dev nD) : Valuation τ sig (Elt F) := Function.update (V1 m d) (Proc.devRef .tc main_v4) (biasOf (cntAt m d))
/-- What the TensorCore call finds in a buffer. -/
abbrev atCall (d : Dev nD) (b : Ref sig .tc) : Buf (Elt F) ((SparseCore.T d : Thread nD τ).loc b) := V2 m d (Proc.devRef .tc b)

/-! ## The pipeline's proof data -/

/-- The twelve input windows' blocks at point `t`; -/
def in0 (d : Dev nD) (t : Fin cfg1.N) : Vec F S1x512x512 .f32 := ((cfg1.win 0).blk t).view.read (Elt F) (atCall m d main_arg0)
/-- Operand 1's block at a grid point. -/
def in1 (d : Dev nD) (t : Fin cfg1.N) : Vec F S1x2048x128 .f32 := ((cfg1.win 1).blk t).view.read (Elt F) (atCall m d main_arg1)
/-- Operand 2's block at a grid point. -/
def in2 (d : Dev nD) (t : Fin cfg1.N) : Vec F S1x4x512 .f32 := ((cfg1.win 2).blk t).view.read (Elt F) (atCall m d main_v4)
/-- Operand 3's block at a grid point. -/
def in3 (d : Dev nD) (t : Fin cfg1.N) : Vec F S512x128 .f32 := ((cfg1.win 3).blk t).view.read (Elt F) (atCall m d main_arg5)
/-- Operand 4's block at a grid point. -/
def in4 (d : Dev nD) (t : Fin cfg1.N) : Vec F S128x128 .f32 := ((cfg1.win 4).blk t).view.read (Elt F) (atCall m d main_arg6)
/-- Operand 5's block at a grid point. -/
def in5 (d : Dev nD) (t : Fin cfg1.N) : Vec F S128x128 .f32 := ((cfg1.win 5).blk t).view.read (Elt F) (atCall m d main_arg7)
/-- Operand 6's block at a grid point. -/
def in6 (d : Dev nD) (t : Fin cfg1.N) : Vec F S512x128 .f32 := ((cfg1.win 6).blk t).view.read (Elt F) (atCall m d main_arg8)
/-- Operand 7's block at a grid point. -/
def in7 (d : Dev nD) (t : Fin cfg1.N) : Vec F S128x512 .f32 := ((cfg1.win 7).blk t).view.read (Elt F) (atCall m d main_arg9)
/-- Operand 8's block at a grid point. -/
def in8 (d : Dev nD) (t : Fin cfg1.N) : Vec F S1x512 .f32 := ((cfg1.win 8).blk t).view.read (Elt F) (atCall m d main_v0)
/-- Operand 9's block at a grid point. -/
def in9 (d : Dev nD) (t : Fin cfg1.N) : Vec F S1x512 .f32 := ((cfg1.win 9).blk t).view.read (Elt F) (atCall m d main_v1)
/-- Operand 10's block at a grid point. -/
def in10 (d : Dev nD) (t : Fin cfg1.N) : Vec F S1x128 .f32 := ((cfg1.win 10).blk t).view.read (Elt F) (atCall m d main_v2)
/-- Operand 11's block at a grid point. -/
def in11 (d : Dev nD) (t : Fin cfg1.N) : Vec F S1x128 .f32 := ((cfg1.win 11).blk t).view.read (Elt F) (atCall m d main_v3)
/-- and the result's. -/
def outBlk (d : Dev nD) (t : Fin cfg1.N) : Vec F S1x512x512 .f32 :=
  attnVal (in0 m d t) (in1 m d t) (in2 m d t) (in3 m d t) (in4 m d t) (in5 m d t) (in6 m d t) (in7 m d t) (in8 m d t) (in9 m d t) (in10 m d t) (in11 m d t)

/-- The waits the core has recorded: at levels the SparseCore call leaves. -/
def seen (d : Dev nD) : Set (SemLoc sig × HIx 1) := {p | (K (F := F)).lev (SparseCore.T d, p.1) p.2 ≤ 8}

/-- The proof data on core `d`: the arrays at the call's start; each input's buffer at its block, the result's at the
    attention of the blocks; nothing else held, nothing owed. -/
def dats (_ : Fin 1) (d : Dev nD) : Pipeline.Dat τ (Elt F) (HIx 1) ℕ UU ℕ cfg1 d where
  A w := atCall m d (Pipeline.arrRef spec1 w)
  after w t := match w with
    | ⟨0, _⟩ => in0 m d t
    | ⟨1, _⟩ => in1 m d t
    | ⟨2, _⟩ => in2 m d t
    | ⟨3, _⟩ => in3 m d t
    | ⟨4, _⟩ => in4 m d t
    | ⟨5, _⟩ => in5 m d t
    | ⟨6, _⟩ => in6 m d t
    | ⟨7, _⟩ => in7 m d t
    | ⟨8, _⟩ => in8 m d t
    | ⟨9, _⟩ => in9 m d t
    | ⟨10, _⟩ => in10 m d t
    | ⟨11, _⟩ => in11 m d t
    | ⟨12, _⟩ => outBlk m d t
  Φ _ := iprop(emp)
  q _ := fullShare
  owed _ := 0
  recorded _ := seen (F := F) d

/-- The call's arrays start as the host leaves them. -/
theorem A_eq (d : Dev nD) (w : Fin cfg1.W) : (dats m 0 d).A w = atCall m d (Pipeline.arrRef spec1 w) := by dsimp only [dats]

/-- The body finds operand 0's block in its buffer. -/
theorem before_0 (d : Dev nD) (t : Fin cfg1.N) (y) : (dats m 0 d).before 0 t y = in0 m d t :=
  Pipeline.Dat.before_in_eq_fetched (dats m 0 d) 0 rfl (fun _ => rfl) (fun _ _ _ => rfl) (fun _ => rfl) t y
/-- The body finds operand 1's block in its buffer. -/
theorem before_1 (d : Dev nD) (t : Fin cfg1.N) (y) : (dats m 0 d).before 1 t y = in1 m d t :=
  Pipeline.Dat.before_in_eq_fetched (dats m 0 d) 1 rfl (fun _ => rfl) (fun _ _ _ => rfl) (fun _ => rfl) t y
/-- The body finds operand 2's block in its buffer. -/
theorem before_2 (d : Dev nD) (t : Fin cfg1.N) (y) : (dats m 0 d).before 2 t y = in2 m d t :=
  Pipeline.Dat.before_in_eq_fetched (dats m 0 d) 2 rfl (fun _ => rfl) (fun _ _ _ => rfl) (fun _ => rfl) t y
/-- The body finds operand 3's block in its buffer. -/
theorem before_3 (d : Dev nD) (t : Fin cfg1.N) (y) : (dats m 0 d).before 3 t y = in3 m d t :=
  Pipeline.Dat.before_in_eq_fetched (dats m 0 d) 3 rfl (fun _ => rfl) (fun _ _ _ => rfl) (fun _ => rfl) t y
/-- The body finds operand 4's block in its buffer. -/
theorem before_4 (d : Dev nD) (t : Fin cfg1.N) (y) : (dats m 0 d).before 4 t y = in4 m d t :=
  Pipeline.Dat.before_in_eq_fetched (dats m 0 d) 4 rfl (fun _ => rfl) (fun _ _ _ => rfl) (fun _ => rfl) t y
/-- The body finds operand 5's block in its buffer. -/
theorem before_5 (d : Dev nD) (t : Fin cfg1.N) (y) : (dats m 0 d).before 5 t y = in5 m d t :=
  Pipeline.Dat.before_in_eq_fetched (dats m 0 d) 5 rfl (fun _ => rfl) (fun _ _ _ => rfl) (fun _ => rfl) t y
/-- The body finds operand 6's block in its buffer. -/
theorem before_6 (d : Dev nD) (t : Fin cfg1.N) (y) : (dats m 0 d).before 6 t y = in6 m d t :=
  Pipeline.Dat.before_in_eq_fetched (dats m 0 d) 6 rfl (fun _ => rfl) (fun _ _ _ => rfl) (fun _ => rfl) t y
/-- The body finds operand 7's block in its buffer. -/
theorem before_7 (d : Dev nD) (t : Fin cfg1.N) (y) : (dats m 0 d).before 7 t y = in7 m d t :=
  Pipeline.Dat.before_in_eq_fetched (dats m 0 d) 7 rfl (fun _ => rfl) (fun _ _ _ => rfl) (fun _ => rfl) t y
/-- The body finds operand 8's block in its buffer. -/
theorem before_8 (d : Dev nD) (t : Fin cfg1.N) (y) : (dats m 0 d).before 8 t y = in8 m d t :=
  Pipeline.Dat.before_in_eq_fetched (dats m 0 d) 8 rfl (fun _ => rfl) (fun _ _ _ => rfl) (fun _ => rfl) t y
/-- The body finds operand 9's block in its buffer. -/
theorem before_9 (d : Dev nD) (t : Fin cfg1.N) (y) : (dats m 0 d).before 9 t y = in9 m d t :=
  Pipeline.Dat.before_in_eq_fetched (dats m 0 d) 9 rfl (fun _ => rfl) (fun _ _ _ => rfl) (fun _ => rfl) t y
/-- The body finds operand 10's block in its buffer. -/
theorem before_10 (d : Dev nD) (t : Fin cfg1.N) (y) : (dats m 0 d).before 10 t y = in10 m d t :=
  Pipeline.Dat.before_in_eq_fetched (dats m 0 d) 10 rfl (fun _ => rfl) (fun _ _ _ => rfl) (fun _ => rfl) t y
/-- The body finds operand 11's block in its buffer. -/
theorem before_11 (d : Dev nD) (t : Fin cfg1.N) (y) : (dats m 0 d).before 11 t y = in11 m d t :=
  Pipeline.Dat.before_in_eq_fetched (dats m 0 d) 11 rfl (fun _ => rfl) (fun _ _ _ => rfl) (fun _ => rfl) t y

/-! ## The body's obligation -/

/-- What the body holds before grid point `t`: its blocks, and the result's buffer. -/
def bodyPre (d : Dev nD) (t : Fin cfg1.N) : sProp 𝕄 :=
  iprop((dats m 0 d).Φ t.castSucc ∗ (dats m 0 d).owesAt none t.castSucc
    ∗ (∃ y, owns (SparseCore.T d : Thread nD τ) (st1_0 t) fullShare ((dats m 0 d).before 0 t y))
    ∗ (∃ y, owns (SparseCore.T d : Thread nD τ) (st1_1 t) fullShare ((dats m 0 d).before 1 t y))
    ∗ (∃ y, owns (SparseCore.T d : Thread nD τ) (st1_2 t) fullShare ((dats m 0 d).before 2 t y))
    ∗ (∃ y, owns (SparseCore.T d : Thread nD τ) (st1_3 t) fullShare ((dats m 0 d).before 3 t y))
    ∗ (∃ y, owns (SparseCore.T d : Thread nD τ) (st1_4 t) fullShare ((dats m 0 d).before 4 t y))
    ∗ (∃ y, owns (SparseCore.T d : Thread nD τ) (st1_5 t) fullShare ((dats m 0 d).before 5 t y))
    ∗ (∃ y, owns (SparseCore.T d : Thread nD τ) (st1_6 t) fullShare ((dats m 0 d).before 6 t y))
    ∗ (∃ y, owns (SparseCore.T d : Thread nD τ) (st1_7 t) fullShare ((dats m 0 d).before 7 t y))
    ∗ (∃ y, owns (SparseCore.T d : Thread nD τ) (st1_8 t) fullShare ((dats m 0 d).before 8 t y))
    ∗ (∃ y, owns (SparseCore.T d : Thread nD τ) (st1_9 t) fullShare ((dats m 0 d).before 9 t y))
    ∗ (∃ y, owns (SparseCore.T d : Thread nD τ) (st1_10 t) fullShare ((dats m 0 d).before 10 t y))
    ∗ (∃ y, owns (SparseCore.T d : Thread nD τ) (st1_11 t) fullShare ((dats m 0 d).before 11 t y))
    ∗ (∃ y, owns (SparseCore.T d : Thread nD τ) (st1_12 t) fullShare ((dats m 0 d).before 12 t y)))
/-- What it holds after: the blocks unchanged, and the result's buffer written. -/
def bodyPost (d : Dev nD) (t : Fin cfg1.N) : sProp 𝕄 :=
  iprop((dats m 0 d).Φ t.succ ∗ (dats m 0 d).owesAt none t.succ
    ∗ owns (SparseCore.T d : Thread nD τ) (st1_0 t) fullShare ((dats m 0 d).after 0 t)
    ∗ owns (SparseCore.T d : Thread nD τ) (st1_1 t) fullShare ((dats m 0 d).after 1 t)
    ∗ owns (SparseCore.T d : Thread nD τ) (st1_2 t) fullShare ((dats m 0 d).after 2 t)
    ∗ owns (SparseCore.T d : Thread nD τ) (st1_3 t) fullShare ((dats m 0 d).after 3 t)
    ∗ owns (SparseCore.T d : Thread nD τ) (st1_4 t) fullShare ((dats m 0 d).after 4 t)
    ∗ owns (SparseCore.T d : Thread nD τ) (st1_5 t) fullShare ((dats m 0 d).after 5 t)
    ∗ owns (SparseCore.T d : Thread nD τ) (st1_6 t) fullShare ((dats m 0 d).after 6 t)
    ∗ owns (SparseCore.T d : Thread nD τ) (st1_7 t) fullShare ((dats m 0 d).after 7 t)
    ∗ owns (SparseCore.T d : Thread nD τ) (st1_8 t) fullShare ((dats m 0 d).after 8 t)
    ∗ owns (SparseCore.T d : Thread nD τ) (st1_9 t) fullShare ((dats m 0 d).after 9 t)
    ∗ owns (SparseCore.T d : Thread nD τ) (st1_10 t) fullShare ((dats m 0 d).after 10 t)
    ∗ owns (SparseCore.T d : Thread nD τ) (st1_11 t) fullShare ((dats m 0 d).after 11 t)
    ∗ owns (SparseCore.T d : Thread nD τ) (st1_12 t) fullShare ((dats m 0 d).after 12 t))

/-- The body, from the one to the other. -/
theorem sound_body (d : Dev nD) (t : Fin cfg1.N) :
    bodyPre m d t ⊢ wp frame (wpE (defs₀ (F := F)) 𝒱₀ (SparseCore.T d) none) Set.univ (bodyAt1 t) (fun _ => bodyPost m d t) := by
  unfold bodyPre bodyPost bodyAt1
  rw [show (dats m 0 d).owesAt none t.succ = (dats m 0 d).owesAt none t.castSucc from rfl,
    show (dats m 0 d).Φ t.succ = (dats m 0 d).Φ t.castSucc from rfl]
  simp only [before_0, before_1, before_2, before_3, before_4, before_5, before_6, before_7, before_8, before_9, before_10, before_11]
  have hr := tcRun (F := F) d (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (in0 m d t) (in1 m d t) (in2 m d t) (in3 m d t) (in4 m d t) (in5 m d t) (in6 m d t) (in7 m d t) (in8 m d t) (in9 m d t) (in10 m d t) (in11 m d t)
  iintro ⟨HΦ, HO, ⟨%y0, H0⟩, ⟨%y1, H1⟩, ⟨%y2, H2⟩, ⟨%y3, H3⟩, ⟨%y4, H4⟩, ⟨%y5, H5⟩, ⟨%y6, H6⟩, ⟨%y7, H7⟩, ⟨%y8, H8⟩, ⟨%y9, H9⟩, ⟨%y10, H10⟩, ⟨%y11, H11⟩, ⟨%y12, H12⟩⟩
  iapply (wp_wand frame _ Set.univ) $$ [H0 H1 H2 H3 H4 H5 H6 H7 H8 H9 H10 H11 H12]
  · iapply hr
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12
  iintro %_ H
  isplitl [HΦ]; · iexact HΦ
  isplitl [HO]; · iexact HO
  iexact H

/-- The body table's row at the point is the body as the pipeline calls it. -/
theorem defs₀_row (t : Fin cfg1.N) : defs₀ (F := F) .tc cfg1.body (cfg1.bodyArgs t (cfg1.slots t)) = bodyAt1 t := by
  rfl

/-- The body's part of the pipeline's proof. -/
theorem body_obligation (d : Dev nD) :
    Pipeline.BodyObligation (dats m 0 d) (defs₀ (F := F)) 𝒱₀ none Set.univ := fun t => by
  rw [bigSep_W1, bigSep_W1, defs₀_row]
  exact triple_restated (sound_body m d t) rfl .rfl fun _ => .rfl

/-! ## The call as one step -/

/-- The windows' tables: there are none. -/
abbrev adm : (p : Fin 1) → (pcfgs (F := F) p).Adm := fun p => (cfgs p).toPCfg_adm

/-- The core's account of its waits, owing nothing. -/
abbrev Owes (d : Dev nD) : sProp 𝕄 :=
  iprop(∃ W, ⌜(K (F := F)).WBelow (SparseCore.T d) W 8⌝ ∗ owes (SparseCore.T d : Thread nD τ) (0 : CellTallies nD τ sig (HIx 1)) W)

/-- The arrays no window touches. -/
abbrev Rest (d : Dev nD) : sProp 𝕄 :=
  Pipeline.unscopedRest (Ix := HIx 1) (Name := ℕ) (U := UU) (Lvl := ℕ) spec1 d (atCall m d)

set_option backward.isDefEq.respectTransparency.types false in
/-- The call: entered from the arrays at their contents after the SparseCore call, left with each at what the
    write-backs make of it. -/
def reg : Pipeline.RegionSeg (pcfgs (F := F)) adm (dats m) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none spec1
  hbody c := (body_obligation m c).loose
  hwaits := Pipeline.hwaits_of_owed_zero _ _ _ _ (K (F := F)).L (K (F := F)).lev 0 fun _ _ => rfl
  pre c := iprop(unscopedBufs c (atCall m c) ∗ Owes c)
  post c := iprop((dats m 0 c).arrays ((dats m 0 c).arrAt · cfg1.N) ∗ Rest m c ∗ Owes c)
  X c := iprop(emp)
  Y c := iprop(emp)
  Z c := Rest m c
  hentry c := by
    have hsplit := Pipeline.arrays_of_unscopedBufs (pcfgs (F := F)) adm (dats m) launch1.win launch1.arr_whole c
      ((dats m 0 c).share_full fun _ => rfl) (atCall m c) (A_eq m c)
    iintro ⟨⟨Hub, ⟨%W, %hW, HO⟩⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hr
  hin c := by
    iintro -; iempintro
  hout c := by
    rw [scopedRest1_eq, Pipeline.ownSems0_none]
    iintro -
    isplitr; · iempintro
    isplitr <;> iempintro
  hexit c := by
    iintro ⟨Ha, HO, -, Hr⟩
    imodintro
    isplitl [Ha]; · iexact Ha
    isplitl [Hr]; · iexact Hr
    unfold Pipeline.Dat.owesAt Pipeline.owesWithin
    icases HO with ⟨%W, %hW, HO⟩
    iexists W; isplitr
    · ipureintro
      intro p hp
      rcases hW hp with h | h
      · exact h
      · obtain ⟨w, s, rfl⟩ := h
        exact Nat.zero_le _
    iexact HO

end Cert.Proof.Attn

end
-- ==== Proof.Launch.lean ====
/-
  The program's run: its main on the TensorCore — the four reshapes, the SparseCore call, the TensorCore call — inside
  the launch, and what every final state then holds.
-/
module

public import proofs.«01_k».proof.Proof.Region

@[expose] public section

noncomputable section

namespace Cert.Proof.Attn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] [Named F]
variable (m : (ℓ : Loc nD τ sig) → Buf (Elt F) ℓ)

variable (ρ : Dev nD → PrngReg)

/-! ## The arrays of a core -/

/-- The TensorCore's arrays, as device buffers. -/
def ucRefs : Finset (DevRef τ sig) := (StableHlo.tcRefs τ sig).filter fun b => ¬ b.isScoped

omit [FloatOps F] [Named F] in
/-- The device's buffers, as the host operations hold them. -/
theorem unscopedBufs_held (d : Dev nD) (W : Valuation τ sig (Elt F)) :
    (unscopedBufs d (fun b => W (Proc.devRef .tc b)) : sProp 𝕄) = StableHlo.held (SparseCore.T d : Thread nD τ) ucRefs W := by
  unfold unscopedBufs StableHlo.held ucRefs StableHlo.tcRefs
  rw [Finset.filter_map, bigSep_map]
  rfl

omit [FloatOps F] [Named F] in
/-- A host operation's buffers are among those held. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The arrays the SparseCore call leaves alone. -/
def others : Finset (Ref sig .tc) := ((Finset.univ.filter fun b : Ref sig .tc => ¬ b.isScoped).erase main_arg3).erase main_v4

omit [FloatOps F] [Named F] in
/-- Out of the held buffers: the counts and the bias, and the rest. -/
theorem bufs_split (d : Dev nD) (W : (b : Ref sig .tc) → Buf (Elt F) ((SparseCore.T d : Thread nD τ).loc b)) :
    (unscopedBufs d W : sProp 𝕄) = iprop((cLoc d ↦{fullShare} W main_arg3) ∗ (bLoc d ↦{fullShare} W main_v4)
      ∗ bigSep others fun b => (SparseCore.T d : Thread nD τ).loc b ↦{fullShare} W b) := by
  unfold unscopedBufs
  rw [show (Finset.univ.filter fun b : Ref sig .tc => ¬ b.isScoped) = insert main_arg3 (insert main_v4 others) by decide,
    SparseCore.bigSep_insert' (by decide), SparseCore.bigSep_insert' (by decide)]

/-- The four operations write the four matrices only. -/
theorem V1_of_ne (d : Dev nD) (b : Ref sig .tc) (hb : b ≠ main_v0 ∧ b ≠ main_v1 ∧ b ≠ main_v2 ∧ b ≠ main_v3) :
    V1 m d (Proc.devRef .tc b) = m ((SparseCore.T d : Thread nD τ).loc b) := by
  refine StableHlo.after_of_forall_not_mem (b := Proc.devRef .tc b) ops0 (V0 m d) ?_
  obtain ⟨h0, h1, h2, h3⟩ := hb
  intro op hop
  simp only [ops0, List.mem_cons, List.mem_nil_iff, or_false] at hop
  rcases hop with rfl | rfl | rfl | rfl <;> rw [StableHlo.reshape_writes, Finset.mem_singleton] <;>
    exact StableHlo.devRef_ne_of_ne ‹_›

/-- After the SparseCore call the bias array holds the mask of the counts; -/
theorem V2_bias (d : Dev nD) : atCall m d main_v4 = biasOf (cntAt m d) := by
  unfold atCall V2; exact Function.update_self ..
/-- every other buffer is as before it. -/
theorem V2_of_ne (d : Dev nD) (b : Ref sig .tc) (hb : b ≠ main_v4) : atCall m d b = V1 m d (Proc.devRef .tc b) := by
  unfold atCall V2; exact Function.update_of_ne (StableHlo.devRef_ne_of_ne hb) ..

/-! ## The launch element -/

/-- The handshakes' records, the pipeline's, and no counter yet. -/
def u₀ : UU := (initOf (K (F := F)).hsCells (K (F := F)).hsToks, (initOf (Pipeline.cells cfgs cellOf_inj) (Pipeline.launchToks cfgs cellOf_inj), 1))

/-- The pipeline's records on core `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] [Named F] in
/-- A separating product of nothing is nothing. -/
theorem bigSep_emp' {I : Type} (s : Finset I) : (bigSep s fun _ => iprop(emp)) = (iprop(emp) : sProp 𝕄) := bigSep_emp_const s

omit [FloatOps F] [Named F] in
/-- The ghost state at the start, split into its two parts. -/
theorem own_split : (ownU (u₀ (F := F)) : sProp 𝕄)
    ⊢ iprop(BI.own (EH (initOf (K (F := F)).hsCells (K (F := F)).hsToks))
        ∗ BI.own (EP (initOf (Pipeline.cells cfgs cellOf_inj) (Pipeline.launchToks cfgs cellOf_inj)))) := by
  unfold u₀ EP
  iintro Hu
  ihave H := (ownU_pair _ _) $$ Hu
  icases H with ⟨HH, HP⟩
  ihave H := (own_pair_emb embR _ _) $$ HP
  icases H with ⟨HP, -⟩
  isplitl [HH] <;> iassumption

/-- The ghost state at the start is what the launch needs. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  have hg := Pipeline.fund_ghost (cfgs := cfgs) (EP : Emb UP 𝕄) cellOf_inj
  iintro Hu
  ihave H := own_split $$ Hu
  icases H with ⟨HH, HP⟩
  imod hg $$ HP with ⟨H1, H2⟩
  imodintro
  isplitl [HH]; · iexact HH
  isplitl [H1 H2]
  · rw [bigSep_sep']
    isplitl [H1]
    · iapply (Entails.of_eq (bigSep_congr fun (d : Dev nD) _ => bigSep_univ_of_subsingleton (0 : Fin 1))) $$ H1
    · iapply (Entails.of_eq (bigSep_congr fun (d : Dev nD) _ => bigSep_univ_of_subsingleton (0 : Fin 1))) $$ H2
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- What the SparseCore call hands over at its start; -/
theorem st0_eq (d : Dev nD) : (bigSep Finset.univ fun c : Fin ((K (F := F)).nCore 0) => (P m).st 0 d c) = iprop(cPts m d ∗ bPts d (m (bLoc d))) :=
  bigSep_univ_of_subsingleton (0 : Fin 1)
/-- and at its end. -/
theorem dn0_eq (d : Dev nD) : (bigSep Finset.univ fun c : Fin ((K (F := F)).nCore 0) => (P m).dn 0 d c) = iprop(cPts m d ∗ bPts d (biasOf (cntAt m d))) :=
  bigSep_univ_of_subsingleton (0 : Fin 1)

/-- What the run leaves on core `d`: the windows' arrays as the write-backs make them, the others as launched. -/
abbrev FIN (d : Dev nD) : sProp 𝕄 := iprop((dats m 0 d).arrays ((dats m 0 d).arrAt · cfg1.N) ∗ Rest m d)

/-- The host program: the reshapes, the SparseCore call, the TensorCore call. -/
theorem main_seq (d : Dev nD) : main (F := F) d = (StableHlo.seq ops0 >>= fun _ => ((K (F := F)).run d 0 >>= fun _ =>
    SparseCore.liftProg (.op (.customCall (Pipeline.entry 0) ()) .ret))) := rfl

/-- What the TensorCore call's region needs; -/
theorem reg_pre (d : Dev nD) : (reg m).pre d = iprop(unscopedBufs d (atCall m d) ∗ Owes d) := rfl
/-- and what it leaves. -/
theorem reg_post (d : Dev nD) : (reg m).post d = iprop((dats m 0 d).arrays ((dats m 0 d).arrAt · cfg1.N) ∗ Rest m d ∗ Owes d) := rfl

/-- The SparseCore call's step and the TensorCore call's, from the arrays after the reshapes. -/
theorem after_ops [∀ e, Nonempty (Elt F e)] (κ : GSem nD τ sig → ℕ) (d : Dev nD) :
    iprop((K (F := F)).ctx EH (P m) κ ∗ (K (F := F)).tcSt EH d 0 ∗ boundary (SparseCore.T d : Thread nD τ)
        ∗ StableHlo.held (SparseCore.T d : Thread nD τ) ucRefs (V1 m d) ∗ (K (F := F)).tcSems0 d ∗ G d)
      ⊢ wp frame (wpE ((K (F := F)).defs (D (F := F))) 𝒱 (SparseCore.T d) none) Set.univ
          ((K (F := F)).run d 0 >>= fun _ => SparseCore.liftProg (.op (.customCall (Pipeline.entry 0) ()) .ret))
          fun _ => iprop((K (F := F)).tcSt EH d 1 ∗ FIN m d ∗ (K (F := F)).tcEnd d) := by
  unfold SparseCore.Cfg.tcEnd
  rw [← unscopedBufs_held, bufs_split, V1_of_ne m d main_arg3 (by decide), V1_of_ne m d main_v4 (by decide), wp_bind]
  iintro ⟨#Hctx, Hst, Hb, ⟨Hc, Hv, Ho⟩, Hts, Hg1, Hg2⟩
  iapply ((K (F := F)).wp_run (D (F := F)) 𝒱 (EH := EH) (P := P m) κ d 0) $$ [Hst Hc Hv Ho Hb Hts Hg1 Hg2]
  isplitr; · iexact Hctx
  isplitl [Hst]; · iexact Hst
  isplitl [Hc Hv]
  · rw [st0_eq]
    isplitl [Hc]; · iexact Hc
    iexact Hv
  iintro ⟨Hst, Hdn⟩
  ihave Hdn' := (Entails.of_eq (dn0_eq m d)) $$ Hdn
  icases Hdn' with ⟨Hc, Hv⟩
  iapply ((K (F := F)).wp_liftProg (D (F := F)) 𝒱 (SparseCore.T d) Set.univ none)
  iapply (Pipeline.RegionSeg.wp (pcfgs (F := F)) adm (dats m) none cellOf_inj EP defs₀ 𝒱₀ (K (F := F)).L (K (F := F)).lev (reg m) d none (fun _ h => nomatch h))
  unfold SparseCore.Cfg.tcSt
  icases Hst with ⟨⟨%W, %hW, HO⟩, Hst⟩
  isplitl [Hst Hts]
  · rw [reg_post]
    iintro ⟨Hb, Ha, Hr, ⟨%W', %hW', HO⟩⟩
    rw [wp_ret]; imodintro
    isplitl [Hst HO]
    · isplitl [HO]
      · iexists W'
        isplitr; · ipureintro; exact hW'
        rw [(K (F := F)).Otc_end (N := 1) d (n := 1) le_rfl]
        iexact HO
      iexact Hst
    isplitl [Ha Hr]
    · isplitl [Ha] <;> iassumption
    isplitl [Hb] <;> iassumption
  isplitl [Hb]; · iexact Hb
  isplitl [HO Hc Hv Ho]
  · rw [reg_pre, bufs_split, V2_bias, V2_of_ne m d main_arg3 (by decide), V1_of_ne m d main_arg3 (by decide)]
    isplitr [HO]
    · isplitl [Hc]; · iexact Hc
      isplitl [Hv]; · iexact Hv
      iapply (Entails.of_eq (bigSep_congr fun b hb => by
        rw [V2_of_ne m d b (Finset.ne_of_mem_erase hb)])) $$ Ho
    · iexists W
      isplitr; · ipureintro; exact hW
      rw [← (K (F := F)).Otc_end (N := 1) d (n := 1) le_rfl]
      iexact HO
  isplitr; · iapply (SparseCore.Cfg.ctx_levAts κ) $$ Hctx
  isplitl [Hg1] <;> iassumption

/-- @main on core `d`: the reshapes, then the two calls. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hseq := StableHlo.wp_seq (defs := (K (F := F)).defs (D (F := F))) 𝒱 none Set.univ d ucRefs
    (fun _ => (K (F := F)).run d 0 >>= fun _ => SparseCore.liftProg (.op (.customCall (Pipeline.entry 0) ()) .ret))
    (K := fun _ => (iprop((K (F := F)).tcSt EH d 1 ∗ FIN m d ∗ (K (F := F)).tcEnd d) : sProp 𝕄)) ops0
    (fun op hop => sub_ucRefs op (by
      simp only [ops0, List.mem_cons, List.mem_nil_iff, or_false] at hop
      rcases hop with rfl | rfl | rfl | rfl <;> exact StableHlo.reshape_bufs_sub ..))
    (fun op hop => by
      simp only [ops0, List.mem_cons, List.mem_nil_iff, or_false] at hop
      rcases hop with rfl | rfl | rfl | rfl <;> rfl) (V0 m d)
  rw [main_seq]
  unfold SparseCore.Cfg.tcRes
  rw [show unscopedBufs d (fun b => m ((SparseCore.T d : Thread nD τ).loc b)) = StableHlo.held (SparseCore.T d : Thread nD τ) ucRefs (V0 m d) from
    unscopedBufs_held d (V0 m d)]
  iintro ⟨#Hctx, Hst, ⟨Hb, Hh, Hts, -⟩, Hg⟩
  iapply hseq $$ [Hb Hh]
  · isplitl [Hb] <;> iassumption
  iintro ⟨Hb, Hh⟩
  iapply (after_ops m κ d)
  isplitr; · iexact Hctx
  isplitl [Hst]; · iexact Hst
  isplitl [Hb]; · iexact Hb
  isplitl [Hh]; · iexact Hh
  isplitl [Hts] <;> iassumption

/-! ## The final states -/

/-- What a final state holds of core `d`: the windows' arrays as the write-backs make them, the others as launched. -/
def fq (d : Dev nD) (s' : Phys nD τ sig (Elt F)) : Prop :=
  (∀ w, s'.mem.mem (((pcfgs (F := F) 0).spec w).arr.view.loc (SparseCore.T d : Thread nD τ)) = (dats m 0 d).arrAt w cfg1.N)
    ∧ ∀ b ∈ Pipeline.restRefs sig spec1, s'.mem.mem ((SparseCore.T d : Thread nD τ).loc b) = atCall m d b

/-- At the end the memory is as claimed. -/
theorem hfin (d : Dev nD) (s' : Phys nD τ sig (Elt F)) : iprop(FIN m d ∗ SI s') ⊢ (⌜fq m d s'⌝ : sProp 𝕄) := by
  iintro ⟨⟨Ha, Hr⟩, HSI⟩
  ihave H := (Pipeline.arrays_read (pcfgs (F := F)) adm (dats m) launch1.arr_whole d ((dats m 0 d).share_full fun _ => rfl) _ s') $$ [Ha HSI]
  · isplitl [Ha] <;> iassumption
  icases H with ⟨%ha, HSI⟩
  unfold Rest Pipeline.unscopedRest
  ihave H := (pointsTo_read_all _ (fun b => (SparseCore.T d : Thread nD τ).loc b) (fun b => atCall m d b) s') $$ [Hr HSI]
  · isplitl [Hr] <;> iassumption
  icases H with ⟨%hr, -⟩
  ipureintro; exact ⟨ha, hr⟩

/-- Every run of the program ends, nothing faulting, with every semaphore at zero and the arrays as `fq` says. -/
def QC : PUnit × MemSt nD τ sig (Elt F) → Prop := fun r =>
  (∀ d : Dev nD, (∀ w, r.2.mem (((pcfgs (F := F) 0).spec w).arr.view.loc (SparseCore.T d : Thread nD τ)) = (dats m 0 d).arrAt w cfg1.N)
    ∧ ∀ b ∈ Pipeline.restRefs sig spec1, r.2.mem ((SparseCore.T d : Thread nD τ).loc b) = atCall m d b) ∧ r.2.sem = fun _ => 0

/-- Every run of the program ends without fault, with the result array and the arguments as claimed and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Attn

end
-- ==== Proof.Frames.lean ====
/-
  Every run of the program ends with its arguments as launched and every semaphore at zero; and what is in the result.
-/
module

public import proofs.«01_k».proof.Proof.Launch

@[expose] public section

noncomputable section

namespace Cert.Proof.Attn

open Cert.KernelIdeal Cert.KernelIdeal.Gen

open Idealize.ShloMosaic
open Idealize.SL Idealize.SL.Sem

variable {F : FTy → Type} [FloatOps F] [Named F]
variable (m : (ℓ : Loc nD τ sig) → Buf (Elt F) ℓ) (ρ : Dev nD → PrngReg)

/-- An array neither the reshapes nor the SparseCore call write is, at the TensorCore call, as launched. -/
theorem kept (d : Dev nD) (b : Ref sig .tc) (h0 : b ≠ main_v0) (h1 : b ≠ main_v1) (h2 : b ≠ main_v2) (h3 : b ≠ main_v3) (h4 : b ≠ main_v4) :
    atCall m d b = m ((d.tc : Thread nD τ).loc b) := by
  rw [V2_of_ne m d b h4, V1_of_ne m d b ⟨h0, h1, h2, h3⟩]

/-- The memory `s` holds the arguments as launched. -/
def ArgsKept (d : Dev nD) (s : MemSt nD τ sig (Elt F)) : Prop :=
    s.mem ((d.tc : Thread nD τ).loc main_arg0) = m ((d.tc : Thread nD τ).loc main_arg0) ∧
    s.mem ((d.tc : Thread nD τ).loc main_arg1) = m ((d.tc : Thread nD τ).loc main_arg1) ∧
    s.mem ((d.tc : Thread nD τ).loc main_arg2) = m ((d.tc : Thread nD τ).loc main_arg2) ∧
    s.mem ((d.tc : Thread nD τ).loc main_arg3) = m ((d.tc : Thread nD τ).loc main_arg3) ∧
    s.mem ((d.tc : Thread nD τ).loc main_arg4) = m ((d.tc : Thread nD τ).loc main_arg4) ∧
    s.mem ((d.tc : Thread nD τ).loc main_arg5) = m ((d.tc : Thread nD τ).loc main_arg5) ∧
    s.mem ((d.tc : Thread nD τ).loc main_arg6) = m ((d.tc : Thread nD τ).loc main_arg6) ∧
    s.mem ((d.tc : Thread nD τ).loc main_arg7) = m ((d.tc : Thread nD τ).loc main_arg7) ∧
    s.mem ((d.tc : Thread nD τ).loc main_arg8) = m ((d.tc : Thread nD τ).loc main_arg8) ∧
    s.mem ((d.tc : Thread nD τ).loc main_arg9) = m ((d.tc : Thread nD τ).loc main_arg9) ∧
    s.mem ((d.tc : Thread nD τ).loc main_arg10) = m ((d.tc : Thread nD τ).loc main_arg10) ∧
    s.mem ((d.tc : Thread nD τ).loc main_arg11) = m ((d.tc : Thread nD τ).loc main_arg11) ∧
    s.mem ((d.tc : Thread nD τ).loc main_arg12) = m ((d.tc : Thread nD τ).loc main_arg12) ∧
    s.mem ((d.tc : Thread nD τ).loc main_arg13) = m ((d.tc : Thread nD τ).loc main_arg13)

/-- Every argument is unchanged at the end of a run. -/
theorem args_of_QC {r : PUnit × MemSt nD τ sig (Elt F)} (hr : QC m r) (d : Dev nD) : ArgsKept m d r.2 := by
  have h := hr.1
  exact ⟨
    (h d).1 0 |>.trans (((dats m 0 d).arrAt_in 0 rfl _).trans ((A_eq m d 0).trans (kept m d main_arg0 (by decide) (by decide) (by decide) (by decide) (by decide)))),
    (h d).1 1 |>.trans (((dats m 0 d).arrAt_in 1 rfl _).trans ((A_eq m d 1).trans (kept m d main_arg1 (by decide) (by decide) (by decide) (by decide) (by decide)))),
    ((h d).2 main_arg2 (Pipeline.mem_restRefs_of main_arg2 (by decide) (by decide))).trans (kept m d main_arg2 (by decide) (by decide) (by decide) (by decide) (by decide)),
    ((h d).2 main_arg3 (Pipeline.mem_restRefs_of main_arg3 (by decide) (by decide))).trans (kept m d main_arg3 (by decide) (by decide) (by decide) (by decide) (by decide)),
    ((h d).2 main_arg4 (Pipeline.mem_restRefs_of main_arg4 (by decide) (by decide))).trans (kept m d main_arg4 (by decide) (by decide) (by decide) (by decide) (by decide)),
    (h d).1 3 |>.trans (((dats m 0 d).arrAt_in 3 rfl _).trans ((A_eq m d 3).trans (kept m d main_arg5 (by decide) (by decide) (by decide) (by decide) (by decide)))),
    (h d).1 4 |>.trans (((dats m 0 d).arrAt_in 4 rfl _).trans ((A_eq m d 4).trans (kept m d main_arg6 (by decide) (by decide) (by decide) (by decide) (by decide)))),
    (h d).1 5 |>.trans (((dats m 0 d).arrAt_in 5 rfl _).trans ((A_eq m d 5).trans (kept m d main_arg7 (by decide) (by decide) (by decide) (by decide) (by decide)))),
    (h d).1 6 |>.trans (((dats m 0 d).arrAt_in 6 rfl _).trans ((A_eq m d 6).trans (kept m d main_arg8 (by decide) (by decide) (by decide) (by decide) (by decide)))),
    (h d).1 7 |>.trans (((dats m 0 d).arrAt_in 7 rfl _).trans ((A_eq m d 7).trans (kept m d main_arg9 (by decide) (by decide) (by decide) (by decide) (by decide)))),
    ((h d).2 main_arg10 (Pipeline.mem_restRefs_of main_arg10 (by decide) (by decide))).trans (kept m d main_arg10 (by decide) (by decide) (by decide) (by decide) (by decide)),
    ((h d).2 main_arg11 (Pipeline.mem_restRefs_of main_arg11 (by decide) (by decide))).trans (kept m d main_arg11 (by decide) (by decide) (by decide) (by decide) (by decide)),
    ((h d).2 main_arg12 (Pipeline.mem_restRefs_of main_arg12 (by decide) (by decide))).trans (kept m d main_arg12 (by decide) (by decide) (by decide) (by decide) (by decide)),
    ((h d).2 main_arg13 (Pipeline.mem_restRefs_of main_arg13 (by decide) (by decide))).trans (kept m d main_arg13 (by decide) (by decide) (by decide) (by decide) (by decide))⟩

/-- Every run ends, its arguments as launched and every semaphore at zero. -/
theorem frame_main [∀ e, Nonempty (Elt F e)] :
    θ_run (Cert.KernelIdeal.defs (F := F)) (Cert.KernelIdeal.threads (F := F)) ⟨m, fun _ => 0, ρ⟩
      (fun r => (∀ d : Dev nD, ArgsKept m d r.2) ∧ r.2.sem = fun _ => 0) :=
  (θ_run (Cert.KernelIdeal.defs (F := F)) (Cert.KernelIdeal.threads (F := F)) ⟨m, fun _ => 0, ρ⟩).mono
    (fun _ h => ⟨args_of_QC m h, h.2⟩) (run_main m ρ)

end Cert.Proof.Attn

end
-- ==== Proof.Transport.lean ====
/-
  The program as compiled is the idealized program at bit-pattern floats, each named constant read as its pattern: the
  two texts differ in nothing else. What is proved of the idealized program at any float values is so proved of both.
-/
module

public import proofs.«01_k».proof.Proof.Gen.Kernel
public import proofs.«01_k».proof.Proof.Frames

@[expose] public section

noncomputable section

namespace Cert.Proof.Same

open Idealize.ShloMosaic Idealize.SL Idealize.SL.Sem

/-- A named constant read as the pattern it is spelt with. -/
@[reducible] def literal : Named Bits := ⟨fun _ _ {φ} b => Scalar.ofBits φ b⟩

variable [hK : Cert.Kernel.Facts] [hI : Cert.KernelIdeal.Facts]

/-- The SparseCore kernel's body is the same; -/
theorem tile_body_eq : (letI := literal; Cert.KernelIdeal.cc0__sc_bias_body (F := Bits)) = Cert.Kernel.cc0__sc_bias_body (F := Bits) := rfl
/-- so is the TensorCore kernel's; -/
theorem core_body_eq : (letI := literal; Cert.KernelIdeal.cc1__tc_body (F := Bits)) = Cert.Kernel.cc1__tc_body (F := Bits) := rfl
/-- so are the bodies the calls run, row by row; -/
theorem defs₀_eq : (letI := literal; Cert.KernelIdeal.defs₀ (F := Bits)) = Cert.Kernel.defs₀ (F := Bits) := by
  funext p ℓ a
  exact match p, ℓ, a with
  | .tc, 0, _ => rfl
  | .tc, 1, (t, s) => (by unfold Cert.Kernel.defs₀; rw [← core_body_eq]; rfl)
  | .scScalar _, 0, _ => rfl
  | .scScalar _, 1, _ => rfl
  | .scVector _ _, 0, _ => (by unfold Cert.Kernel.defs₀; rw [← tile_body_eq]; rfl)
  | .scVector _ _, 1, a => Eq.trans (b := Prog.op (TpuEff.call (1 : Cert.Kernel.Λ₀.Label) a) Prog.ret) rfl rfl
/-- so is every definition; -/
theorem defs_eq : (letI := literal; Cert.KernelIdeal.defs (F := Bits)) = Cert.Kernel.defs (F := Bits) :=
  congrArg (fun x => (Cert.Kernel.sc (F := Bits)).defs (Pipeline.defs Cert.Kernel.pcfgs x)) defs₀_eq
/-- and so is what each thread runs. -/
theorem threads_eq : Cert.KernelIdeal.threads (F := Bits) = Cert.Kernel.threads (F := Bits) := rfl

end Cert.Proof.Same

end
-- ==== Proof.FrameClaims.lean ====
/-
  The claims that need no arithmetic: the three programs end with their arguments unchanged and every semaphore at
  zero, and the two named constants are what the certificate's table says.
-/
module

public import proofs.«01_k».proof.Defs
public import proofs.«01_k».proof.Proof.Transport
public import proofs.«01_k».proof.Proof.Gen.ReferenceIdeal.Run
public import proofs.«01_k».proof.Proof.Gen.Pre_windows
public import Idealize.ShloMosaic.Lib.Quiescent

@[expose] public section

noncomputable section

namespace Cert.Proof

open Idealize.ShloMosaic Idealize.SL Idealize.SL.Sem

/-- The program as compiled. -/
theorem frame_p : Cert.quiescent_Kernel := fun m ρ _ => by
  letI := Same.literal
  have h := Attn.frame_main (F := Bits) m ρ
  rw [Same.defs_eq] at h
  exact h

/-- The idealized program, -/
theorem frame_pi : Cert.quiescent_KernelIdeal := fun m ρ _ => Attn.frame_main (F := Ideal) m ρ
/-- also from the memories the equation is claimed at. -/
theorem frame_pi_windows : Cert.quiescent_KernelIdeal_pre_windows := fun m ρ _ => Attn.frame_main (F := Ideal) m ρ

/-- The reference, -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- also from the memories the equation is claimed at. -/
theorem frame_ri_windows : Cert.quiescent_ReferenceIdeal_pre_windows := fun m ρ _ => frame_ri m ρ trivial

/-- The table gives the mask −∞ and the scale the reciprocal of the root of 32. -/
theorem preserves : Cert.preserves_Kernel_KernelIdeal :=
  ⟨IdealRules.named_const.statement Cert.KernelIdeal.κ "mask" .f32 0xCE6E6B28#32 ⊥ rfl,
   IdealRules.named_const.statement Cert.KernelIdeal.κ "scale" .f32 0x3E3504F3#32 (((Real.sqrt 32)⁻¹ : ℝ) : EReal) rfl⟩

end Cert.Proof

end
-- ==== Proof.Formula.lean ====
/-
  Arithmetic on the extended reals that the equation needs: the layer norm by a reciprocal root and by a quotient, a sum
  cut to a head or to a window, and the softmax over a window against the masked softmax over every atom.
-/
module

public import Idealize.ShloMosaic.PureOps.Ideal

@[expose] public section

noncomputable section

namespace Cert.Proof.Formula

open Idealize.ShloMosaic

/-! ## Layer norm -/

/-- The mean of a row, `c` its length; -/
def mean {n : ℕ} (c : EReal) (x : Fin n → EReal) : EReal := Ideal.div (∑ k, x k) c
/-- the mean of the squared distances from it; -/
def vari {n : ℕ} (c : EReal) (x : Fin n → EReal) : EReal := Ideal.div (∑ k, (x k - mean c x) * (x k - mean c x)) c
/-- and the normalized row, scaled and shifted: -/
def norm {n : ℕ} (c e : EReal) (x g b : Fin n → EReal) (i : Fin n) : EReal :=
  (x i - mean c x) * Ideal.rsqrt (vari c x + e) * g i + b i

/-- A square is not negative, infinities included. -/
theorem mul_self_nonneg' (z : EReal) : 0 ≤ z * z := by
  induction z with
  | bot => simp
  | top => simp
  | coe r => rw [← EReal.coe_mul]; exact_mod_cast mul_self_nonneg r

/-- A variance is not negative. -/
theorem vari_nonneg {n : ℕ} {c : ℝ} (hc : 0 < c) (x : Fin n → EReal) : 0 ≤ vari (c : EReal) x := by
  unfold vari
  rw [Ideal.div_coe hc.ne']
  exact mul_nonneg (Finset.sum_nonneg fun k _ => mul_self_nonneg' _) (by exact_mod_cast (one_div_pos.mpr hc).le)

/-- A product with the reciprocal root of the variance is the quotient by its root. -/
theorem rsqrt_eq_div {v : EReal} (hv : 0 ≤ v) {e : ℝ} (he : 0 < e) (y : EReal) :
    y * Ideal.rsqrt (v + (e : EReal)) = Ideal.div y (Ideal.sqrt (v + (e : EReal))) := by
  induction v with
  | bot => simp at hv
  | top =>
    rw [EReal.top_add_coe, Ideal.rsqrt_top, Ideal.sqrt_top]
    simp [Ideal.div]
  | coe r =>
    have hr : 0 ≤ r := by exact_mod_cast hv
    have h : 0 < r + e := by linarith
    rw [← EReal.coe_add, Ideal.rsqrt_coe, Ideal.sqrt_coe, if_neg h.not_gt, if_neg h.ne', if_neg h.not_gt,
      Ideal.div_coe (Real.sqrt_pos.mpr h).ne', one_div]

/-- The normalized row by a quotient. -/
theorem norm_eq {n : ℕ} {c e : ℝ} (hc : 0 < c) (he : 0 < e) (x g b : Fin n → EReal) (i : Fin n) :
    norm (c : EReal) (e : EReal) x g b i
      = Ideal.div (x i - mean (c : EReal) x) (Ideal.sqrt (vari (c : EReal) x + (e : EReal))) * g i + b i := by
  unfold norm; rw [rsqrt_eq_div (vari_nonneg hc x) he]

/-! ## Sums cut to a head or to a window -/

/-- The heads' indicator: component `d` belongs to head `d / 32`. -/
def hot (h : Fin 4) (d : Fin 128) : EReal := if d.val / 32 = h.val then 1 else 0
/-- Component `e` of head `h`; -/
def comp (h : Fin 4) (e : Fin 32) : Fin 128 := ⟨h.val * 32 + e.val, by omega⟩
/-- the head of a component; -/
def headOf (d : Fin 128) : Fin 4 := ⟨d.val / 32, by omega⟩
/-- and its place there. -/
def placeOf (d : Fin 128) : Fin 32 := ⟨d.val % 32, by omega⟩

/-- A component is the one at its place of its head. -/
theorem comp_headOf (d : Fin 128) : comp (headOf d) (placeOf d) = d := Fin.ext (by simp only [comp, headOf, placeOf]; omega)

/-- A sum over the components of head `h`. -/
theorem sum_hot (h : Fin 4) (f : Fin 128 → EReal) : ∑ d, hot h d * f d = ∑ e, f (comp h e) := by
  refine (Finset.sum_of_injOn (comp h) ?_ ?_ ?_ ?_).symm
  · intro a _ b _ hab
    have := congrArg Fin.val hab
    simp only [comp] at this
    exact Fin.ext (by omega)
  · intro a _; simp
  · intro d _ hd
    have : ¬ d.val / 32 = h.val := by
      intro hh
      apply hd
      exact ⟨placeOf d, by simp, Fin.ext (by simp only [comp, placeOf]; omega)⟩
    simp [hot, this]
  · intro e _
    have : (comp h e).val / 32 = h.val := by simp only [comp]; omega
    simp [hot, this]

/-- A sum over the heads, of which component `d` has one. -/
theorem sum_head (d : Fin 128) (f : Fin 4 → EReal) : ∑ h, f h * hot h d = f (headOf d) := by
  rw [Finset.sum_eq_single (headOf d)]
  · simp [hot, headOf]
  · intro h _ hne
    have : ¬ d.val / 32 = h.val := fun hh => hne (Fin.ext (by simp only [headOf]; omega))
    simp [hot, this]
  · intro h; simp at h

/-- Atom `j` of token `n`. -/
def atom (n : Fin 512) (j : Fin 4) : Fin 2048 := ⟨n.val * 4 + j.val, by omega⟩

/-- A sum over all atoms of what vanishes away from token `n`'s. -/
theorem sum_atoms (n : Fin 512) (f : Fin 2048 → EReal) (hf : ∀ m : Fin 2048, m.val / 4 ≠ n.val → f m = 0) :
    ∑ m, f m = ∑ j, f (atom n j) := by
  refine (Finset.sum_of_injOn (atom n) ?_ ?_ ?_ ?_).symm
  · intro a _ b _ hab
    have := congrArg Fin.val hab
    simp only [atom] at this
    exact Fin.ext (by omega)
  · intro a _; simp
  · intro m _ hm
    refine hf m fun hh => hm ⟨⟨m.val % 4, by omega⟩, by simp, Fin.ext (by simp only [atom]; omega)⟩
  · intro j _; rfl

/-- A real that is not negative times a sum. -/
theorem sum_mul_coe {n : ℕ} {c : ℝ} (hc : 0 ≤ c) (f : Fin n → EReal) : (∑ k, f k) * (c : EReal) = ∑ k, f k * (c : EReal) := by
  have h0 : (0 : EReal) ≤ (c : EReal) := by exact_mod_cast hc
  induction (Finset.univ : Finset (Fin n)) using Finset.induction_on with
  | empty => simp
  | insert a s ha ih => rw [Finset.sum_insert ha, Finset.sum_insert ha, EReal.right_distrib_of_nonneg_of_ne_top h0 (EReal.coe_ne_top c), ih]

/-- A head's score: the scale taken into the query, the head picked out of all components, against the quotient of the
    head's own sum. -/
theorem score_eq (h : Fin 4) (q k : Fin 128 → EReal) :
    ∑ d, hot h d * (q d * (((Real.sqrt 32)⁻¹ : ℝ) : EReal) * k d)
      = Ideal.div (∑ e, q (comp h e) * k (comp h e)) (Ideal.sqrt ((32 : ℝ) : EReal)) := by
  have h32 : (0 : ℝ) < Real.sqrt 32 := Real.sqrt_pos.mpr (by norm_num)
  rw [sum_hot h fun d => q d * (((Real.sqrt 32)⁻¹ : ℝ) : EReal) * k d, Ideal.sqrt_coe, if_neg (by norm_num), Ideal.div_coe h32.ne',
    one_div, sum_mul_coe (inv_nonneg.mpr h32.le)]
  exact Finset.sum_congr rfl fun e _ => by rw [mul_assoc, mul_comm (((Real.sqrt 32)⁻¹ : ℝ) : EReal), ← mul_assoc]

/-! ## The softmax of a window -/

/-- The masked scores of a window of `c` atoms of four; -/
def masked (c : ℤ) (s : Fin 4 → EReal) (j : Fin 4) : EReal := s j + if (j.val : ℤ) < c then 0 else ⊥
/-- their exponentials, the largest score taken off; -/
def expo (c : ℤ) (s : Fin 4 → EReal) (j : Fin 4) : EReal :=
  Ideal.exp (masked c s j - (Finset.univ : Finset (Fin 4)).fold max ⊥ (masked c s))
/-- and the weights, `t` added to the sum. -/
def weight (t : EReal) (c : ℤ) (s : Fin 4 → EReal) (j : Fin 4) : EReal :=
  Ideal.div (expo c s j) (∑ k, expo c s k + t)

/-- Whether atom `m` is in the window of `c` atoms that starts at token `n`'s first, as a factor. -/
def inside (n : Fin 512) (c : ℤ) (m : Fin 2048) : EReal := if 4 * (n.val : ℤ) ≤ m.val ∧ (m.val : ℤ) < 4 * n.val + c then 1 else 0
/-- The largest score inside; -/
def top (n : Fin 512) (c : ℤ) (s : Fin 2048 → EReal) : EReal :=
  (Finset.univ : Finset (Fin 2048)).fold max ⊥ fun m => if 0 < inside n c m then s m else ⊥
/-- the exponentials, zero outside; -/
def expoAll (n : Fin 512) (c : ℤ) (s : Fin 2048 → EReal) (m : Fin 2048) : EReal :=
  Ideal.exp (s m - top n c s) * inside n c m
/-- and the weights. -/
def weightAll (t : EReal) (n : Fin 512) (c : ℤ) (s : Fin 2048 → EReal) (m : Fin 2048) : EReal :=
  Ideal.div (expoAll n c s m) (∑ k, expoAll n c s k + t)

/-- An exponential is not negative, infinities included. -/
theorem exp_nonneg' (x : EReal) : 0 ≤ Ideal.exp x := by
  induction x with
  | bot => simp
  | top => simp
  | coe r => rw [Ideal.exp_coe]; exact_mod_cast (Real.exp_pos r).le

/-- Slot `j` of a token is inside its window when it is below the count; -/
theorem inside_atom (n : Fin 512) (c : ℤ) (j : Fin 4) : inside n c (atom n j) = if (j.val : ℤ) < c then 1 else 0 := by
  unfold inside atom
  refine if_congr ?_ rfl rfl
  dsimp only
  push_cast
  omega

/-- another token's atom never is. -/
theorem inside_away {n : Fin 512} {c : ℤ} (hc : c ≤ 4) {m : Fin 2048} (hm : m.val / 4 ≠ n.val) : inside n c m = 0 := by
  unfold inside
  refine if_neg ?_
  omega

/-- The largest score inside a window is that of its token's four slots. -/
theorem top_eq {n : Fin 512} {c : ℤ} (hc : c ≤ 4) (s : Fin 2048 → EReal) :
    top n c s = (Finset.univ : Finset (Fin 4)).fold max ⊥ (masked c fun j => s (atom n j)) := by
  have hm (j : Fin 4) : masked c (fun j => s (atom n j)) j = if 0 < inside n c (atom n j) then s (atom n j) else ⊥ := by
    rw [inside_atom]; unfold masked
    by_cases h : (j.val : ℤ) < c <;> simp [h]
  refine le_antisymm ?_ ?_
  · refine (Finset.fold_max_le _).mpr ⟨bot_le, fun m _ => ?_⟩
    by_cases h : m.val / 4 = n.val
    · refine Finset.le_fold_max _ |>.mpr (Or.inr ⟨⟨m.val % 4, by omega⟩, Finset.mem_univ _, ?_⟩)
      rw [hm]
      have : atom n ⟨m.val % 4, by omega⟩ = m := Fin.ext (by simp only [atom]; omega)
      rw [this]
    · rw [inside_away hc h]; simp
  · refine (Finset.fold_max_le _).mpr ⟨bot_le, fun j _ => ?_⟩
    exact Finset.le_fold_max _ |>.mpr (Or.inr ⟨atom n j, Finset.mem_univ _, (hm j).le⟩)

/-- The exponential at a token's own atom is that of its slot; -/
theorem expoAll_atom {n : Fin 512} {c : ℤ} (hc : c ≤ 4) (s : Fin 2048 → EReal) (j : Fin 4) :
    expoAll n c s (atom n j) = expo c (fun j => s (atom n j)) j := by
  unfold expoAll expo
  rw [top_eq hc, inside_atom]
  by_cases h : (j.val : ℤ) < c
  · simp [masked, h]
  · simp [masked, h]

/-- at another token's atom it is zero. -/
theorem expoAll_away {n : Fin 512} {c : ℤ} (hc : c ≤ 4) (s : Fin 2048 → EReal) {m : Fin 2048} (hm : m.val / 4 ≠ n.val) :
    expoAll n c s m = 0 := by
  unfold expoAll; rw [inside_away hc hm, mul_zero]

/-- The exponentials of all atoms sum to those of the token's four slots. -/
theorem sum_expoAll {n : Fin 512} {c : ℤ} (hc : c ≤ 4) (s : Fin 2048 → EReal) :
    ∑ m, expoAll n c s m = ∑ j, expo c (fun j => s (atom n j)) j :=
  (sum_atoms n _ fun _ => expoAll_away hc s).trans (Finset.sum_congr rfl fun j _ => expoAll_atom hc s j)

/-- Values averaged by the masked softmax over every atom are those averaged by the softmax over the window. -/
theorem window_eq {n : Fin 512} {c : ℤ} (hc : c ≤ 4) {t : ℝ} (ht : 0 < t) (s v : Fin 2048 → EReal) :
    ∑ m, weightAll (t : EReal) n c s m * v m = ∑ j, weight (t : EReal) c (fun j => s (atom n j)) j * v (atom n j) := by
  have hpos : (0 : EReal) < ∑ m, expoAll n c s m + (t : EReal) := by
    have h0 : (0 : EReal) ≤ ∑ m, expoAll n c s m := Finset.sum_nonneg fun m _ => by
      refine mul_nonneg (exp_nonneg' _) ?_
      unfold inside; split <;> simp
    have h1 : (0 : EReal) < (t : EReal) := by exact_mod_cast ht
    exact lt_of_lt_of_le h1 (le_add_of_nonneg_left h0)
  refine (sum_atoms n _ fun m hm => ?_).trans (Finset.sum_congr rfl fun j _ => ?_)
  · unfold weightAll
    rw [expoAll_away hc s hm, Ideal.div, if_neg hpos.ne', zero_mul, zero_mul]
  · unfold weightAll weight
    rw [expoAll_atom hc, sum_expoAll hc]

/-! ## The result -/

/-- The normalized rows of a matrix. -/
def normed {r n : ℕ} (c e : ℝ) (x : Fin r → Fin n → EReal) (g b : Fin n → EReal) (k : Fin r) (i : Fin n) : EReal :=
  norm (c : EReal) (e : EReal) (x k) g b i

/-- The constants under the norms' roots and in the softmax's sum. -/
def epsR : ℝ := 10995116 / 2 ^ 40
/-- The constant added to the softmax's sum. -/
def tinyR : ℝ := 9007199 / 2 ^ 53
/-- Both constants are positive: the norms'; -/
theorem epsR_pos : 0 < epsR := by unfold epsR; norm_num
/-- the sum's. -/
theorem tinyR_pos : 0 < tinyR := by unfold tinyR; norm_num

/-- A row times a matrix. -/
def proj {k o : ℕ} (x : Fin k → EReal) (w : Fin k → Fin o → EReal) (d : Fin o) : EReal := ∑ i, x i * w i d

/-- The score of a query's head `h` against a key's. -/
def score (q k : Fin 128 → EReal) (h : Fin 4) : EReal :=
  Ideal.div (∑ e, q (comp h e) * k (comp h e)) (Ideal.sqrt ((32 : ℝ) : EReal))

/-- One batch's result at token `n`, component `c`, from normalized tokens `sn` and atoms `an`: the gated average of the
    window's values, projected. -/
def attend (sn : Fin 512 → Fin 512 → EReal) (an : Fin 2048 → Fin 128 → EReal) (cnt : Fin 512 → ℤ)
    (wq : Fin 512 → Fin 128 → EReal) (wk wv : Fin 128 → Fin 128 → EReal) (wg : Fin 512 → Fin 128 → EReal)
    (wo : Fin 128 → Fin 512 → EReal) (n c : Fin 512) : EReal :=
  ∑ d, (Ideal.logistic (proj (sn n) wg d)
    * ∑ j, weight (tinyR : EReal) (cnt n) (fun j => score (proj (sn n) wq) (proj (an (atom n j)) wk) (headOf d)) j
        * proj (an (atom n j)) wv d) * wo d c

end Cert.Proof.Formula

end
-- ==== Proof.Consts.lean ====
/-
  The float constants of the programs as the extended reals they denote.
-/
module

public import Idealize.ShloMosaic.PureOps.Ideal

@[expose] public section

noncomputable section

namespace Cert.Proof.Consts

open Idealize.ShloMosaic

/-- The row length of `s`, -/
theorem c512 : Ideal.ofBits .f32 0x44000000#32 = ((512 : ℝ) : EReal) := by
  simp [Ideal.ofBits, Ideal.ieee, -EReal.coe_mul]; norm_num
/-- of `a`, -/
theorem c128 : Ideal.ofBits .f32 0x43000000#32 = ((128 : ℝ) : EReal) := by
  simp [Ideal.ofBits, Ideal.ieee, -EReal.coe_mul]; norm_num
/-- a head's width, -/
theorem c32 : Ideal.ofBits .f32 0x42000000#32 = ((32 : ℝ) : EReal) := by
  simp [Ideal.ofBits, Ideal.ieee, -EReal.coe_mul]; norm_num
/-- the constant under the normalization's root, about 1e-5, -/
theorem eps : Ideal.ofBits .f32 0x3727C5AC#32 = ((10995116 / 2 ^ 40 : ℝ) : EReal) := by
  simp [Ideal.ofBits, Ideal.ieee, -EReal.coe_mul]; norm_num
/-- the one added to the softmax's sum, about 1e-9, -/
theorem tiny : Ideal.ofBits .f32 0x3089705F#32 = ((9007199 / 2 ^ 53 : ℝ) : EReal) := by
  simp [Ideal.ofBits, Ideal.ieee, -EReal.coe_mul]; norm_num
/-- one, -/
theorem one : Ideal.ofBits .f32 0x3F800000#32 = ((1 : ℝ) : EReal) := by
  simp [Ideal.ofBits, Ideal.ieee, -EReal.coe_mul]; norm_num
/-- and −∞. -/
theorem ninf : Ideal.ofBits .f32 0xFF800000#32 = ⊥ := by
  simp [Ideal.ofBits, Ideal.ieee, -EReal.coe_mul]

end Cert.Proof.Consts

end
-- ==== Proof.KernelValue.lean ====
/-
  What the TensorCore kernel computes of one batch, index by index, over the extended reals.
-/
module

public import proofs.«01_k».proof.Proof.Tc
public import proofs.«01_k».proof.Proof.Formula
public import proofs.«01_k».proof.Proof.Consts
public import Idealize.ShloMosaic.Lib.Pointwise

@[expose] public section

set_option maxRecDepth 16384

noncomputable section

namespace Cert.Proof.Attn

open Cert.KernelIdeal Cert.KernelIdeal.Gen
open Idealize.ShloMosaic
open Cert.Proof.Formula

/-- The word whose float is the heads' indicator: one minus the distance of the component's head from `h`, cut at one. -/
theorem hot_word : ∀ (h : Fin 4) (d : Fin 128),
   (IntOp.subi (1#32)
        (IntOp.minsi
          (IntOp.absi
            (IntOp.subi
              (Scalar.select
                (IntOp.andi
                  (IntOp.cmpi CmpIPredicate.ne
                    (IntOp.subi (BitVec.setWidth 32 (IntOp.cmpi CmpIPredicate.sgt (BitVec.ofNat 32 d.val) 0#32))
                      (BitVec.setWidth 32 (IntOp.cmpi CmpIPredicate.slt (BitVec.ofNat 32 d.val) 0#32)))
                    (Scalar.subi (Scalar.extui (Scalar.cmpi CmpIPredicate.sgt 32#32 0#32))
                      (Scalar.extui (Scalar.cmpi CmpIPredicate.slt 32#32 0#32))))
                  (IntOp.cmpi CmpIPredicate.ne (IntOp.remsi ArithUnit.vector (BitVec.ofNat 32 d.val) 32#32) 0#32))
                (IntOp.subi (IntOp.divsi ArithUnit.vector (BitVec.ofNat 32 d.val) 32#32) 1#32)
                (IntOp.divsi ArithUnit.vector (BitVec.ofNat 32 d.val) 32#32))
              (BitVec.ofNat 32 h.val)))
          1#32)) = if d.val / 32 = h.val then 1#32 else 0#32 := by
  decide +kernel

/-- The float of the indicator's word, in either format. -/
theorem hot_float (φ : FTy) (h : Fin 4) (d : Fin 128) :
    FloatOps.sitofp (F := Ideal) φ (if d.val / 32 = h.val then 1#32 else 0#32) = hot h d := by
  unfold hot
  split <;> simp [FloatOps.sitofp, Scalar.sitofp]

/-- The heads' indicator in the narrow format; -/
theorem headsN_apply (h : Fin 4) (d : Fin 128) : headsN (F := Ideal) (ix2 (n0 := 4) (n1 := 128) h d) = hot h d := by
  pointwise [headsN, k1_pay16, k1_pay13, k1_pay14, k1_pay15]
  rw [hot_word, hot_float]

/-- in the wide one. -/
theorem headsW_apply (h : Fin 4) (d : Fin 128) : headsW (F := Ideal) (ix2 (n0 := 4) (n1 := 128) h d) = hot h d := by
  pointwise [headsW, k1_pay20, k1_pay17, k1_pay18, k1_pay19]
  rw [hot_word, hot_float]

/-- The normalized tokens; -/
theorem sN_apply (X0 : Vec Ideal S1x512x512 .f32) (X8 X9 : Vec Ideal S1x512 .f32) (n i : Fin 512) :
    sN X0 X8 X9 (ix2 (n0 := 512) (n1 := 512) n i)
      = normed 512 epsR (fun n i => X0 (ix3 (n0 := 1) (n1 := 512) (n2 := 512) 0 n i)) (fun i => X8 (ix2 (n0 := 1) (n1 := 512) 0 i))
          (fun i => X9 (ix2 (n0 := 1) (n1 := 512) 0 i)) n i := by
  pointwise [sN, k1_pay2]
  simp only [Consts.c512, Consts.eps]
  rfl

/-- the normalized atoms. -/
theorem aN_apply (X1 : Vec Ideal S1x2048x128 .f32) (X10 X11 : Vec Ideal S1x128 .f32) (n : Fin 2048) (i : Fin 128) :
    aN X1 X10 X11 (ix2 (n0 := 2048) (n1 := 128) n i)
      = normed 128 epsR (fun n i => X1 (ix3 (n0 := 1) (n1 := 2048) (n2 := 128) 0 n i)) (fun i => X10 (ix2 (n0 := 1) (n1 := 128) 0 i))
          (fun i => X11 (ix2 (n0 := 1) (n1 := 128) 0 i)) n i := by
  pointwise [aN, k1_pay7, k1_pay3, k1_pay4, k1_pay5, k1_pay6]
  simp only [Consts.c128, Consts.eps]
  rfl

/-- The kernel's named scale is the reciprocal root of 32. -/
theorem scale_eq : Named.named (F := Ideal) κ "scale" (φ := .f32) 0x3E3504F3#32 = (((Real.sqrt 32)⁻¹ : ℝ) : EReal) :=
  IdealRules.named_const.ideal_named_scalar _ _ _ _ rfl

section
variable (s : FVec Ideal S512x512 .bf16) (a : FVec Ideal S2048x128 .bf16) (wq : FVec Ideal S512x128 .f32) (wk : FVec Ideal S128x128 .f32)
  (h : Fin 4) (n : Fin 512) (d : Fin 128)

/-- The scores of the window's four atoms, one by one; -/
theorem score0_apply : k1_pay26 s a (k1_pay8 wq) (k1_pay9 wk) headsN (ix2 (n0 := 4) (n1 := 512) h n)
    = score (proj (fun i => s (ix2 n i)) fun i d => wq (ix2 i d)) (proj (fun i => a (ix2 (atom n 0) i)) fun i d => wk (ix2 i d)) h := by
  unfold score; rw [← score_eq]
  pointwise [k1_pay26, k1_pay24, k1_pay23, k1_pay21, k1_pay8, k1_pay9]
  simp only [headsN_apply, scale_eq]; rfl
/-- of atom 1; -/
theorem score1_apply : k1_pay29 s a (k1_pay8 wq) (k1_pay9 wk) headsN (ix2 (n0 := 4) (n1 := 512) h n)
    = score (proj (fun i => s (ix2 n i)) fun i d => wq (ix2 i d)) (proj (fun i => a (ix2 (atom n 1) i)) fun i d => wk (ix2 i d)) h := by
  unfold score; rw [← score_eq]
  pointwise [k1_pay29, k1_pay27, k1_pay23, k1_pay21, k1_pay8, k1_pay9]
  simp only [headsN_apply, scale_eq]; rfl
/-- of atom 2; -/
theorem score2_apply : k1_pay32 s a (k1_pay8 wq) (k1_pay9 wk) headsN (ix2 (n0 := 4) (n1 := 512) h n)
    = score (proj (fun i => s (ix2 n i)) fun i d => wq (ix2 i d)) (proj (fun i => a (ix2 (atom n 2) i)) fun i d => wk (ix2 i d)) h := by
  unfold score; rw [← score_eq]
  pointwise [k1_pay32, k1_pay30, k1_pay23, k1_pay21, k1_pay8, k1_pay9]
  simp only [headsN_apply, scale_eq]; rfl
/-- of atom 3; -/
theorem score3_apply : k1_pay35 s a (k1_pay8 wq) (k1_pay9 wk) headsN (ix2 (n0 := 4) (n1 := 512) h n)
    = score (proj (fun i => s (ix2 n i)) fun i d => wq (ix2 i d)) (proj (fun i => a (ix2 (atom n 3) i)) fun i d => wk (ix2 i d)) h := by
  unfold score; rw [← score_eq]
  pointwise [k1_pay35, k1_pay33, k1_pay23, k1_pay21, k1_pay8, k1_pay9]
  simp only [headsN_apply, scale_eq]; rfl

/-- and their values. -/
theorem value0_apply : k1_pay25 a (k1_pay10 wk) (ix2 (n0 := 512) (n1 := 128) n d) = proj (fun i => a (ix2 (atom n 0) i)) (fun i d => wk (ix2 i d)) d := by
  pointwise [k1_pay25, k1_pay24, k1_pay23, k1_pay10]; rfl
/-- of atom 1; -/
theorem value1_apply : k1_pay28 a (k1_pay10 wk) (ix2 (n0 := 512) (n1 := 128) n d) = proj (fun i => a (ix2 (atom n 1) i)) (fun i d => wk (ix2 i d)) d := by
  pointwise [k1_pay28, k1_pay27, k1_pay23, k1_pay10]; rfl
/-- of atom 2; -/
theorem value2_apply : k1_pay31 a (k1_pay10 wk) (ix2 (n0 := 512) (n1 := 128) n d) = proj (fun i => a (ix2 (atom n 2) i)) (fun i d => wk (ix2 i d)) d := by
  pointwise [k1_pay31, k1_pay30, k1_pay23, k1_pay10]; rfl
/-- of atom 3. -/
theorem value3_apply : k1_pay34 a (k1_pay10 wk) (ix2 (n0 := 512) (n1 := 128) n d) = proj (fun i => a (ix2 (atom n 3) i)) (fun i d => wk (ix2 i d)) d := by
  pointwise [k1_pay34, k1_pay33, k1_pay23, k1_pay10]; rfl

/-- The gate. -/
theorem gate_apply (wg : FVec Ideal S512x128 .f32) : k1_pay22 s (k1_pay11 wg) (ix2 (n0 := 512) (n1 := 128) n d)
    = Ideal.logistic (proj (fun i => s (ix2 n i)) (fun i d => wg (ix2 i d)) d) := by
  pointwise [k1_pay22, k1_pay11]; rfl
end

/-- One of four by position. -/
theorem pick (f : Fin 4 → EReal) (x : Fin 4) :
    (if _ : x.val < 1 then f 0 else if _ : x.val - 1 < 1 then f 1 else if _ : x.val - 1 - 1 < 1 then f 2 else f 3) = f x := by
  match x with
  | 0 => rfl
  | 1 => rfl
  | 2 => rfl
  | 3 => rfl

/-- The rest of the body: softmax over the four scores and the bias, weighted values, gate, output product. -/
theorem tail_apply (wo : FVec Ideal S128x512 .f32) (g v0 v1 v2 v3 : FVec Ideal S512x128 .f32) (s0 s1 s2 s3 : FVec Ideal S4x512 .f32)
    (b : Vec Ideal S1x4x512 .f32) (S : Fin 4 → Fin 512 → Fin 4 → EReal) (V : Fin 512 → Fin 128 → Fin 4 → EReal) (cnt : Fin 512 → ℤ)
    (h0 : ∀ h n, s0 (ix2 h n) = S h n 0) (h1 : ∀ h n, s1 (ix2 h n) = S h n 1) (h2 : ∀ h n, s2 (ix2 h n) = S h n 2) (h3 : ∀ h n, s3 (ix2 h n) = S h n 3)
    (k0 : ∀ n d, v0 (ix2 n d) = V n d 0) (k1 : ∀ n d, v1 (ix2 n d) = V n d 1) (k2 : ∀ n d, v2 (ix2 n d) = V n d 2) (k3 : ∀ n d, v3 (ix2 n d) = V n d 3)
    (hb : ∀ (j : Fin 4) (n : Fin 512), b (ix3 (n0 := 1) (n1 := 4) (n2 := 512) 0 j n) = if (j.val : ℤ) < cnt n then 0 else ⊥)
    (n c : Fin 512) :
    k1_pay1 (k1_pay36 (k1_pay12 wo) headsW g v0 s0 v1 s1 v2 s2 v3 s3 b) (ix3 (n0 := 1) (n1 := 512) (n2 := 512) 0 n c)
      = ∑ d, (g (ix2 n d) * ∑ j, weight (tinyR : EReal) (cnt n) (S (headOf d) n) j * V n d j) * wo (ix2 d c) := by
  pointwise [k1_pay1, k1_pay36, k1_pay12]
  simp only [h0, h1, h2, h3, k0, k1, k2, k3, headsW_apply, pick, Consts.ninf, Consts.tiny, hb]
  refine Finset.sum_congr rfl fun d _ => ?_
  rw [show ∑ j, weight (tinyR : EReal) (cnt n) (S (headOf d) n) j * V n d j = _ from Fin.sum_univ_four _]
  have e (j : Fin 4) : weight (tinyR : EReal) (cnt n) (S (headOf d) n) j = ∑ h, weight (tinyR : EReal) (cnt n) (S h n) j * hot h d :=
    (sum_head d fun h => weight (tinyR : EReal) (cnt n) (S h n) j).symm
  rw [e 0, e 1, e 2, e 3]
  rfl

/-- The result block, index by index. -/
theorem attnVal_apply (X0 : Vec Ideal S1x512x512 .f32) (X1 : Vec Ideal S1x2048x128 .f32) (X2 : Vec Ideal S1x4x512 .f32) (X3 : Vec Ideal S512x128 .f32)
    (X4 X5 : Vec Ideal S128x128 .f32) (X6 : Vec Ideal S512x128 .f32) (X7 : Vec Ideal S128x512 .f32) (X8 X9 : Vec Ideal S1x512 .f32) (X10 X11 : Vec Ideal S1x128 .f32)
    (cnt : Fin 512 → ℤ)
    (hb : ∀ (j : Fin 4) (n : Fin 512), X2 (ix3 (n0 := 1) (n1 := 4) (n2 := 512) 0 j n) = if (j.val : ℤ) < cnt n then 0 else ⊥)
    (n c : Fin 512) :
    attnVal X0 X1 X2 X3 X4 X5 X6 X7 X8 X9 X10 X11 (ix3 (n0 := 1) (n1 := 512) (n2 := 512) 0 n c)
      = attend
          (normed 512 epsR (fun n i => X0 (ix3 (n0 := 1) (n1 := 512) (n2 := 512) 0 n i)) (fun i => X8 (ix2 (n0 := 1) (n1 := 512) 0 i)) fun i => X9 (ix2 (n0 := 1) (n1 := 512) 0 i))
          (normed 128 epsR (fun n i => X1 (ix3 (n0 := 1) (n1 := 2048) (n2 := 128) 0 n i)) (fun i => X10 (ix2 (n0 := 1) (n1 := 128) 0 i)) fun i => X11 (ix2 (n0 := 1) (n1 := 128) 0 i))
          cnt (fun i d => X3 (ix2 i d)) (fun i d => X4 (ix2 i d)) (fun i d => X5 (ix2 i d)) (fun i d => X6 (ix2 i d)) (fun i d => X7 (ix2 i d)) n c := by
  unfold attnVal attend
  refine (tail_apply _ _ _ _ _ _ _ _ _ _ _
    (fun h n j => score (proj (fun i => sN X0 X8 X9 (ix2 n i)) fun i d => X3 (ix2 i d)) (proj (fun i => aN X1 X10 X11 (ix2 (atom n j) i)) fun i d => X4 (ix2 i d)) h)
    (fun n d j => proj (fun i => aN X1 X10 X11 (ix2 (atom n j) i)) (fun i d => X5 (ix2 i d)) d) cnt
    (fun h n => score0_apply _ _ _ _ h n) (fun h n => score1_apply _ _ _ _ h n) (fun h n => score2_apply _ _ _ _ h n) (fun h n => score3_apply _ _ _ _ h n)
    (fun n d => value0_apply _ _ n d) (fun n d => value1_apply _ _ n d) (fun n d => value2_apply _ _ n d) (fun n d => value3_apply _ _ n d) hb n c).trans ?_
  simp only [gate_apply, sN_apply, aN_apply]

end Cert.Proof.Attn

end
-- ==== Proof.Result.lean ====
/-
  The result array after a run, index by index, over the extended reals.
-/
module

public import proofs.«01_k».proof.Proof.Frames
public import proofs.«01_k».proof.Proof.KernelValue

@[expose] public section

set_option maxRecDepth 16384

noncomputable section

namespace Cert.Proof.Attn

open Cert.KernelIdeal Cert.KernelIdeal.Gen
open Idealize.ShloMosaic
open Idealize.SL Idealize.SL.Sem
open Cert.Proof.Formula

variable (m : (ℓ : Loc nD τ sig) → Buf (Elt Ideal) ℓ) (d : Dev nD)

/-! ## The arrays at the TensorCore call -/

/-- The normalization vectors are one-row matrices; -/
theorem atCall_v0 (i : Fin 512) : atCall m d main_v0 (ix2 (n0 := 1) (n1 := 512) 0 i) = m ((d.tc : Thread nD τ).loc main_arg10) (ix1 i) := by
  rw [V2_of_ne m d main_v0 (by decide)]
  unfold V1 ops0
  after_results
  pointwise []
/-- the tokens' shift; -/
theorem atCall_v1 (i : Fin 512) : atCall m d main_v1 (ix2 (n0 := 1) (n1 := 512) 0 i) = m ((d.tc : Thread nD τ).loc main_arg11) (ix1 i) := by
  rw [V2_of_ne m d main_v1 (by decide)]
  unfold V1 ops0
  after_results
  pointwise []
/-- the atoms' scale; -/
theorem atCall_v2 (i : Fin 128) : atCall m d main_v2 (ix2 (n0 := 1) (n1 := 128) 0 i) = m ((d.tc : Thread nD τ).loc main_arg12) (ix1 i) := by
  rw [V2_of_ne m d main_v2 (by decide)]
  unfold V1 ops0
  after_results
  pointwise []
/-- the atoms' shift; -/
theorem atCall_v3 (i : Fin 128) : atCall m d main_v3 (ix2 (n0 := 1) (n1 := 128) 0 i) = m ((d.tc : Thread nD τ).loc main_arg13) (ix1 i) := by
  rw [V2_of_ne m d main_v3 (by decide)]
  unfold V1 ops0
  after_results
  pointwise []

/-- the bias is nothing for a taken slot and −∞ for an empty one. -/
theorem bias_apply (z j : Fin 4) (n : Fin 512) : atCall m d main_v4 (ix3 (n0 := 4) (n1 := 4) (n2 := 512) z j n)
    = if (j.val : ℤ) < (m ((d.tc : Thread nD τ).loc main_arg3) (ix2 z n) : BitVec 32).toInt then (0 : EReal) else ⊥ := by
  rw [V2_bias]
  unfold biasOf biasVal
  have hj : (BitVec.ofNat 32 j.val).toInt = j.val := by
    rw [BitVec.toInt_ofNat', Int.bmod_def]; omega
  have hk : Named.named (F := Ideal) κ "mask" (φ := .f32) 0xCE6E6B28#32 = (⊥ : EReal) := IdealRules.named_const.ideal_named_scalar _ _ _ _ rfl
  have hz : Scalar.ofBits (F := Ideal) .f32 0x00000000#32 = (0 : EReal) := by
    pointwise []
  rw [hk, hz]
  refine if_congr ?_ rfl rfl
  show IntOp.cmpi .sgt (m ((d.tc : Thread nD τ).loc main_arg3) (ix2 z n) : BitVec 32) (BitVec.ofNat 32 j.val) = 1#1 ↔ _
  simp only [IntOp.cmpi, BitVec.slt, hj]
  by_cases h : (j.val : ℤ) < (m ((d.tc : Thread nD τ).loc main_arg3) (ix2 z n) : BitVec 32).toInt <;> simp [h]

/-! ## The windows' blocks -/

/-- Operand 0's block at a grid point: the batch's. -/
theorem index0 : ∀ t : Fin cfg1.N, win1_0.index t = ![t.val, 0, 0] := (by decide +kernel : ∀ t : Fin grid1.N, _)
/-- Operand 1's block at a grid point: the batch's. -/
theorem index1 : ∀ t : Fin cfg1.N, win1_1.index t = ![t.val, 0, 0] := (by decide +kernel : ∀ t : Fin grid1.N, _)
/-- Operand 2's block at a grid point: the batch's. -/
theorem index2 : ∀ t : Fin cfg1.N, win1_2.index t = ![t.val, 0, 0] := (by decide +kernel : ∀ t : Fin grid1.N, _)
/-- Operand 3's block at a grid point: the whole array. -/
theorem index3 : ∀ t : Fin cfg1.N, win1_3.index t = ![0, 0] := (by decide +kernel : ∀ t : Fin grid1.N, _)
/-- Operand 4's block at a grid point: the whole array. -/
theorem index4 : ∀ t : Fin cfg1.N, win1_4.index t = ![0, 0] := (by decide +kernel : ∀ t : Fin grid1.N, _)
/-- Operand 5's block at a grid point: the whole array. -/
theorem index5 : ∀ t : Fin cfg1.N, win1_5.index t = ![0, 0] := (by decide +kernel : ∀ t : Fin grid1.N, _)
/-- Operand 6's block at a grid point: the whole array. -/
theorem index6 : ∀ t : Fin cfg1.N, win1_6.index t = ![0, 0] := (by decide +kernel : ∀ t : Fin grid1.N, _)
/-- Operand 7's block at a grid point: the whole array. -/
theorem index7 : ∀ t : Fin cfg1.N, win1_7.index t = ![0, 0] := (by decide +kernel : ∀ t : Fin grid1.N, _)
/-- Operand 8's block at a grid point: the whole array. -/
theorem index8 : ∀ t : Fin cfg1.N, win1_8.index t = ![0, 0] := (by decide +kernel : ∀ t : Fin grid1.N, _)
/-- Operand 9's block at a grid point: the whole array. -/
theorem index9 : ∀ t : Fin cfg1.N, win1_9.index t = ![0, 0] := (by decide +kernel : ∀ t : Fin grid1.N, _)
/-- Operand 10's block at a grid point: the whole array. -/
theorem index10 : ∀ t : Fin cfg1.N, win1_10.index t = ![0, 0] := (by decide +kernel : ∀ t : Fin grid1.N, _)
/-- Operand 11's block at a grid point: the whole array. -/
theorem index11 : ∀ t : Fin cfg1.N, win1_11.index t = ![0, 0] := (by decide +kernel : ∀ t : Fin grid1.N, _)
/-- Operand 12's block at a grid point: the batch's. -/
theorem index12 : ∀ t : Fin cfg1.N, win1_12.index t = ![t.val, 0, 0] := (by decide +kernel : ∀ t : Fin grid1.N, _)

/-- The batch of a grid point. -/
def batch (t : Fin cfg1.N) : Fin 4 := t

variable (t : Fin cfg1.N)

/-- What each operand's block holds, in terms of the arguments: the batch's tokens; -/
theorem in0_apply (n i : Fin 512) : in0 m d t (ix3 (n0 := 1) (n1 := 512) (n2 := 512) 0 n i) = m ((d.tc : Thread nD τ).loc main_arg0) (ix3 (batch t) n i) := by
  unfold in0
  blk_simp
  rw [kept m d main_arg0 (by decide) (by decide) (by decide) (by decide) (by decide)]
  refine congrArg _ ?_
  blk_ext [index0, batch]
/-- the batch's atoms; -/
theorem in1_apply (n : Fin 2048) (i : Fin 128) : in1 m d t (ix3 (n0 := 1) (n1 := 2048) (n2 := 128) 0 n i) = m ((d.tc : Thread nD τ).loc main_arg1) (ix3 (batch t) n i) := by
  unfold in1
  blk_simp
  rw [kept m d main_arg1 (by decide) (by decide) (by decide) (by decide) (by decide)]
  refine congrArg _ ?_
  blk_ext [index1, batch]
/-- the batch's bias; -/
theorem in2_apply (j : Fin 4) (n : Fin 512) : in2 m d t (ix3 (n0 := 1) (n1 := 4) (n2 := 512) 0 j n)
    = if (j.val : ℤ) < (m ((d.tc : Thread nD τ).loc main_arg3) (ix2 (batch t) n) : BitVec 32).toInt then (0 : EReal) else ⊥ := by
  rw [← bias_apply]
  unfold in2
  blk_simp
  refine congrArg _ ?_
  blk_ext [index2, batch]
/-- the query weights; -/
theorem in3_apply (i : Fin 512) (k : Fin 128) : in3 m d t (ix2 (n0 := 512) (n1 := 128) i k) = m ((d.tc : Thread nD τ).loc main_arg5) (ix2 i k) := by
  unfold in3
  blk_simp
  rw [kept m d main_arg5 (by decide) (by decide) (by decide) (by decide) (by decide)]
  refine congrArg _ ?_
  blk_ext [index3]
/-- the key weights; -/
theorem in4_apply (i : Fin 128) (k : Fin 128) : in4 m d t (ix2 (n0 := 128) (n1 := 128) i k) = m ((d.tc : Thread nD τ).loc main_arg6) (ix2 i k) := by
  unfold in4
  blk_simp
  rw [kept m d main_arg6 (by decide) (by decide) (by decide) (by decide) (by decide)]
  refine congrArg _ ?_
  blk_ext [index4]
/-- the value weights; -/
theorem in5_apply (i : Fin 128) (k : Fin 128) : in5 m d t (ix2 (n0 := 128) (n1 := 128) i k) = m ((d.tc : Thread nD τ).loc main_arg7) (ix2 i k) := by
  unfold in5
  blk_simp
  rw [kept m d main_arg7 (by decide) (by decide) (by decide) (by decide) (by decide)]
  refine congrArg _ ?_
  blk_ext [index5]
/-- the gate weights; -/
theorem in6_apply (i : Fin 512) (k : Fin 128) : in6 m d t (ix2 (n0 := 512) (n1 := 128) i k) = m ((d.tc : Thread nD τ).loc main_arg8) (ix2 i k) := by
  unfold in6
  blk_simp
  rw [kept m d main_arg8 (by decide) (by decide) (by decide) (by decide) (by decide)]
  refine congrArg _ ?_
  blk_ext [index6]
/-- the output weights; -/
theorem in7_apply (i : Fin 128) (k : Fin 512) : in7 m d t (ix2 (n0 := 128) (n1 := 512) i k) = m ((d.tc : Thread nD τ).loc main_arg9) (ix2 i k) := by
  unfold in7
  blk_simp
  rw [kept m d main_arg9 (by decide) (by decide) (by decide) (by decide) (by decide)]
  refine congrArg _ ?_
  blk_ext [index7]
/-- the tokens' scale; -/
theorem in8_apply (i : Fin 512) : in8 m d t (ix2 (n0 := 1) (n1 := 512) 0 i) = m ((d.tc : Thread nD τ).loc main_arg10) (ix1 i) := by
  refine Eq.trans ?_ (atCall_v0 m d i)
  unfold in8
  blk_simp
  refine congrArg _ ?_
  blk_ext [index8]
/-- the tokens' shift; -/
theorem in9_apply (i : Fin 512) : in9 m d t (ix2 (n0 := 1) (n1 := 512) 0 i) = m ((d.tc : Thread nD τ).loc main_arg11) (ix1 i) := by
  refine Eq.trans ?_ (atCall_v1 m d i)
  unfold in9
  blk_simp
  refine congrArg _ ?_
  blk_ext [index9]
/-- the atoms' scale; -/
theorem in10_apply (i : Fin 128) : in10 m d t (ix2 (n0 := 1) (n1 := 128) 0 i) = m ((d.tc : Thread nD τ).loc main_arg12) (ix1 i) := by
  refine Eq.trans ?_ (atCall_v2 m d i)
  unfold in10
  blk_simp
  refine congrArg _ ?_
  blk_ext [index10]
/-- the atoms' shift. -/
theorem in11_apply (i : Fin 128) : in11 m d t (ix2 (n0 := 1) (n1 := 128) 0 i) = m ((d.tc : Thread nD τ).loc main_arg13) (ix1 i) := by
  refine Eq.trans ?_ (atCall_v3 m d i)
  unfold in11
  blk_simp
  refine congrArg _ ?_
  blk_ext [index11]

/-! ## The result array -/

/-- What the result holds at batch `z`, token `n`, component `c`. -/
def value (z : Fin 4) (n c : Fin 512) : EReal :=
  attend
    (normed 512 epsR (fun n i => m ((d.tc : Thread nD τ).loc main_arg0) (ix3 z n i)) (fun i => m ((d.tc : Thread nD τ).loc main_arg10) (ix1 i))
      fun i => m ((d.tc : Thread nD τ).loc main_arg11) (ix1 i))
    (normed 128 epsR (fun n i => m ((d.tc : Thread nD τ).loc main_arg1) (ix3 z n i)) (fun i => m ((d.tc : Thread nD τ).loc main_arg12) (ix1 i))
      fun i => m ((d.tc : Thread nD τ).loc main_arg13) (ix1 i))
    (fun n => (m ((d.tc : Thread nD τ).loc main_arg3) (ix2 z n) : BitVec 32).toInt)
    (fun i k => m ((d.tc : Thread nD τ).loc main_arg5) (ix2 i k)) (fun i k => m ((d.tc : Thread nD τ).loc main_arg6) (ix2 i k))
    (fun i k => m ((d.tc : Thread nD τ).loc main_arg7) (ix2 i k)) (fun i k => m ((d.tc : Thread nD τ).loc main_arg8) (ix2 i k))
    (fun i k => m ((d.tc : Thread nD τ).loc main_arg9) (ix2 i k)) n c

/-- The block a grid point writes is its batch's attention. -/
theorem outBlk_apply (n c : Fin 512) : outBlk m d t (ix3 (n0 := 1) (n1 := 512) (n2 := 512) 0 n c) = value m d (batch t) n c := by
  unfold outBlk value
  rw [attnVal_apply _ _ _ _ _ _ _ _ _ _ _ _ (fun n => (m ((d.tc : Thread nD τ).loc main_arg3) (ix2 (batch t) n) : BitVec 32).toInt) (in2_apply m d t)]
  simp only [in0_apply, in1_apply, in3_apply, in4_apply, in5_apply, in6_apply, in7_apply, in8_apply, in9_apply, in10_apply, in11_apply]

/-- The result array as one function. -/
def whole : Buf (Elt Ideal) ((d.tc : Thread nD τ).loc main_v5) := fun i => value m d (i 0) (i 1) (i 2)

/-- At the end of the grid the result array holds every batch's attention. -/
theorem final : (dats m 0 d).arrAt 12 cfg1.N = whole m d := by
  refine (dats m 0 d).arrAt_eq_of_covers 12 _ (by decide +kernel) fun t _ y => ?_
  blk_simp
  show outBlk m d t y = _
  obtain ⟨n, c, rfl⟩ : ∃ n c : Fin 512, y = ix3 (n0 := 1) (n1 := 512) (n2 := 512) 0 n c := ⟨y 1, y 2, by
    blk_ext⟩
  rw [outBlk_apply]
  unfold whole
  have e : (win1_12.blk t).view.emb (ix3 (n0 := 1) (n1 := 512) (n2 := 512) 0 n c) = ix3 (n0 := 4) (n1 := 512) (n2 := 512) (batch t) n c := by
    blk_ext [index12, batch]
  rw [e]
  rfl

end Cert.Proof.Attn

end
-- ==== Proof.RefStages.lean ====
/-
  The reference program's result, stage by stage: each stage is its operations applied to the earlier stages.
-/
module

public import proofs.«01_k».proof.Proof.Gen.ReferenceIdeal.Run
public import proofs.«01_k».proof.Proof.Formula
public import proofs.«01_k».proof.Proof.Consts
public import Idealize.ShloMosaic.Lib.Pointwise

@[expose] public section

set_option maxRecDepth 16384

noncomputable section

namespace Cert.Proof.Ref

open Cert.ReferenceIdeal Cert.ReferenceIdeal.Gen Cert.ReferenceIdeal.Value
open Idealize.ShloMosaic Idealize.ShloMosaic.TcCoe

/-- Token means, kept as a column; -/
def meanS (x : FVec Ideal S4x512x512 .f32) : FVec Ideal S4x512x1 .f32 :=
  Host.divf (broadcastInDim S4x512x1 ![0, 1] bcast_S4x512_S4x512x1_0_1 (Host.reduceAdd x (constant S_ .f32 0x00000000#32) reducesTo_S4x512x512_S4x512_d2 h_S_))
    (broadcastInDim S4x512x1 ![] bcast_S_S4x512x1 (constant S_ .f32 0x44000000#32))
/-- what is left after them; -/
def devS (x : FVec Ideal S4x512x512 .f32) : FVec Ideal S4x512x512 .f32 :=
  subf x (broadcastInDim S4x512x512 ![0, 1, 2] bcast_S4x512x1_S4x512x512_0_1_2 (meanS x))
/-- the normalized tokens. -/
def normS (x : FVec Ideal S4x512x512 .f32) (g b : FVec Ideal S512 .f32) : FVec Ideal S4x512x512 .f32 :=
  addf (mulf (Host.divf (devS x)
      (broadcastInDim S4x512x512 ![0, 1, 2] bcast_S4x512x1_S4x512x512_0_1_2
        (Host.sqrt (addf (meanS (mulf (devS x) (devS x))) (broadcastInDim S4x512x1 ![] bcast_S_S4x512x1 (constant S_ .f32 0x3727C5AC#32))))))
    (broadcastInDim S4x512x512 ![0, 1, 2] bcast_S1x1x512_S4x512x512_0_1_2 (broadcastInDim S1x1x512 ![2] bcast_S512_S1x1x512_2 g)))
    (broadcastInDim S4x512x512 ![0, 1, 2] bcast_S1x1x512_S4x512x512_0_1_2 (broadcastInDim S1x1x512 ![2] bcast_S512_S1x1x512_2 b))

/-- Atom means, kept as a column; -/
def meanA (x : FVec Ideal S4x2048x128 .f32) : FVec Ideal S4x2048x1 .f32 :=
  Host.divf (broadcastInDim S4x2048x1 ![0, 1] bcast_S4x2048_S4x2048x1_0_1 (Host.reduceAdd x (constant S_ .f32 0x00000000#32) reducesTo_S4x2048x128_S4x2048_d2 h_S_))
    (broadcastInDim S4x2048x1 ![] bcast_S_S4x2048x1 (constant S_ .f32 0x43000000#32))
/-- what is left after them; -/
def devA (x : FVec Ideal S4x2048x128 .f32) : FVec Ideal S4x2048x128 .f32 :=
  subf x (broadcastInDim S4x2048x128 ![0, 1, 2] bcast_S4x2048x1_S4x2048x128_0_1_2 (meanA x))
/-- the normalized atoms. -/
def normA (x : FVec Ideal S4x2048x128 .f32) (g b : FVec Ideal S128 .f32) : FVec Ideal S4x2048x128 .f32 :=
  addf (mulf (Host.divf (devA x)
      (broadcastInDim S4x2048x128 ![0, 1, 2] bcast_S4x2048x1_S4x2048x128_0_1_2
        (Host.sqrt (addf (meanA (mulf (devA x) (devA x))) (broadcastInDim S4x2048x1 ![] bcast_S_S4x2048x1 (constant S_ .f32 0x3727C5AC#32))))))
    (broadcastInDim S4x2048x128 ![0, 1, 2] bcast_S1x1x128_S4x2048x128_0_1_2 (broadcastInDim S1x1x128 ![2] bcast_S128_S1x1x128_2 g)))
    (broadcastInDim S4x2048x128 ![0, 1, 2] bcast_S1x1x128_S4x2048x128_0_1_2 (broadcastInDim S1x1x128 ![2] bcast_S128_S1x1x128_2 b))

/-- The tokens' heads by a weight; -/
def headsS (s : FVec Ideal S4x512x512 .f32) (w : FVec Ideal S512x128 .f32) : FVec Ideal S4x4x512x32 .f32 :=
  transpose S4x4x512x32 [0, 2, 1, 3]
    (shapeCast _ (Host.dotGeneral dot_S4x512x512_S512x128_S4x512x128_2_0_01_1_n_n none s w : FVec Ideal S4x512x128 .f32) shapeCasts_S4x512x128_S4x512x4x32 : FVec Ideal S4x512x4x32 .f32)
    transposes_S4x512x4x32_S4x4x512x32_0_2_1_3
/-- the atoms' heads by a weight. -/
def headsA (a : FVec Ideal S4x2048x128 .f32) (w : FVec Ideal S128x128 .f32) : FVec Ideal S4x4x2048x32 .f32 :=
  transpose S4x4x2048x32 [0, 2, 1, 3]
    (shapeCast _ (Host.dotGeneral dot_S4x2048x128_S128x128_S4x2048x128_2_0_01_1_n_n none a w : FVec Ideal S4x2048x128 .f32) shapeCasts_S4x2048x128_S4x2048x4x32 : FVec Ideal S4x2048x4x32 .f32)
    transposes_S4x2048x4x32_S4x4x2048x32_0_2_1_3

/-- The scores of every token and atom, -/
def scores (q : FVec Ideal S4x4x512x32 .f32) (k : FVec Ideal S4x4x2048x32 .f32) : FVec Ideal S4x4x512x2048 .f32 :=
  Host.divf (Host.dotGeneral dot_S4x4x512x32_S4x4x2048x32_S4x4x512x2048_3_3_2_2_01_01 none q k)
    (broadcastInDim S4x4x512x2048 ![] bcast_S_S4x4x512x2048 (Host.sqrt (constant S_ .f32 0x42000000#32)))

/-- which atoms lie in a token's window, as zeros and ones. -/
def windowOf (st ct : IVec S4x512 32) : FVec Ideal S4x1x512x2048 .f32 :=
  uitofp .f32 (broadcastInDim S4x1x512x2048 ![0, 2, 3] bcast_S4x512x2048_S4x1x512x2048_0_2_3
    (andi
      (cmpi .sge (broadcastInDim S4x512x2048 ![0, 1, 2] bcast_S1x1x2048_S4x512x2048_0_1_2 (broadcastInDim S1x1x2048 ![2] bcast_S2048_S1x1x2048_2 (iotaInDim S2048 32 0)))
        (broadcastInDim S4x512x2048 ![0, 1, 2] bcast_S4x512x1_S4x512x2048_0_1_2 (broadcastInDim S4x512x1 ![0, 1] bcast_S4x512_S4x512x1_0_1 st)))
      (cmpi .slt (broadcastInDim S4x512x2048 ![0, 1, 2] bcast_S1x1x2048_S4x512x2048_0_1_2 (broadcastInDim S1x1x2048 ![2] bcast_S2048_S1x1x2048_2 (iotaInDim S2048 32 0)))
        (broadcastInDim S4x512x2048 ![0, 1, 2] bcast_S4x512x1_S4x512x2048_0_1_2 (broadcastInDim S4x512x1 ![0, 1] bcast_S4x512_S4x512x1_0_1 (addi st ct))))))

/-- The greatest score inside the window; -/
def topOf (w : FVec Ideal S4x1x512x2048 .f32) (s : FVec Ideal S4x4x512x2048 .f32) : FVec Ideal S4x4x512 .f32 :=
  Host.reduce FloatOps.maximumf
    (select (broadcastInDim S4x4x512x2048 ![0, 1, 2, 3] bcast_S4x1x512x2048_S4x4x512x2048_0_1_2_3
        (cmpf .ogt w (broadcastInDim S4x1x512x2048 ![] bcast_S_S4x1x512x2048 (constant S_ .f32 0x00000000#32))))
      s (broadcastInDim S4x4x512x2048 ![] bcast_S_S4x4x512x2048 (constant (F := Ideal) S_ .f32 0xFF800000#32)))
    (constant S_ .f32 0xFF800000#32) reducesTo_S4x4x512x2048_S4x4x512_d3 h_S_
/-- the exponentials, zero outside the window; -/
def expsOf (w : FVec Ideal S4x1x512x2048 .f32) (s : FVec Ideal S4x4x512x2048 .f32) : FVec Ideal S4x4x512x2048 .f32 :=
  mulf (Host.exp (subf s (broadcastInDim S4x4x512x2048 ![0, 1, 2, 3] bcast_S4x4x512x1_S4x4x512x2048_0_1_2_3
      (broadcastInDim S4x4x512x1 ![0, 1, 2] bcast_S4x4x512_S4x4x512x1_0_1_2 (topOf w s)))))
    (broadcastInDim S4x4x512x2048 ![0, 1, 2, 3] bcast_S4x1x512x2048_S4x4x512x2048_0_1_2_3 w)
/-- the weights. -/
def weightsOf (w : FVec Ideal S4x1x512x2048 .f32) (s : FVec Ideal S4x4x512x2048 .f32) : FVec Ideal S4x4x512x2048 .f32 :=
  Host.divf (expsOf w s)
    (broadcastInDim S4x4x512x2048 ![0, 1, 2, 3] bcast_S4x4x512x1_S4x4x512x2048_0_1_2_3
      (addf (broadcastInDim S4x4x512x1 ![0, 1, 2] bcast_S4x4x512_S4x4x512x1_0_1_2
          (Host.reduceAdd (expsOf w s) (constant S_ .f32 0x00000000#32) reducesTo_S4x4x512x2048_S4x4x512_d3 h_S_))
        (broadcastInDim S4x4x512x1 ![] bcast_S_S4x4x512x1 (constant S_ .f32 0x3089705F#32))))

/-- Heads side by side again; -/
def joined (x : FVec Ideal S4x4x512x32 .f32) : FVec Ideal S4x512x128 .f32 :=
  shapeCast _ (transpose S4x512x4x32 [0, 2, 1, 3] x transposes_S4x4x512x32_S4x512x4x32_0_2_1_3 : FVec Ideal S4x512x4x32 .f32) shapeCasts_S4x512x4x32_S4x512x128
/-- the averaged values under the token mask; -/
def averaged (p : FVec Ideal S4x4x512x2048 .f32) (v : FVec Ideal S4x4x2048x32 .f32) (tm : FVec Ideal S4x512 .f32) : FVec Ideal S4x4x512x32 .f32 :=
  mulf (Host.dotGeneral dot_S4x4x512x2048_S4x4x2048x32_S4x4x512x32_3_2_2_3_01_01 none p v)
    (broadcastInDim S4x4x512x32 ![0, 1, 2, 3] bcast_S4x1x512x1_S4x4x512x32_0_1_2_3 (broadcastInDim S4x1x512x1 ![0, 2] bcast_S4x512_S4x1x512x1_0_2 tm))
/-- the gate's logistic function; -/
def gateOf (x : FVec Ideal S4x512x128 .f32) : FVec Ideal S4x512x128 .f32 :=
  Host.divf (broadcastInDim S4x512x128 ![] bcast_S_S4x512x128 (constant S_ .f32 0x3F800000#32))
    (addf (broadcastInDim S4x512x128 ![] bcast_S_S4x512x128 (constant S_ .f32 0x3F800000#32)) (Host.exp (Host.negf x)))

/-- the result. -/
def result (s : FVec Ideal S4x512x512 .f32) (a : FVec Ideal S4x2048x128 .f32) (st ct : IVec S4x512 32) (tm : FVec Ideal S4x512 .f32)
    (wq : FVec Ideal S512x128 .f32) (wk wv : FVec Ideal S128x128 .f32) (wg : FVec Ideal S512x128 .f32) (wo : FVec Ideal S128x512 .f32)
    (gq bq : FVec Ideal S512 .f32) (gk bk : FVec Ideal S128 .f32) : FVec Ideal S4x512x512 .f32 :=
  Host.dotGeneral dot_S4x512x128_S128x512_S4x512x512_2_0_01_1_n_n none
    (mulf (gateOf (joined (headsS (normS s gq bq) wg)))
      (joined (averaged (weightsOf (windowOf st ct) (scores (headsS (normS s gq bq) wq) (headsA (normA a gk bk) wk))) (headsA (normA a gk bk) wv) tm))) wo

set_option maxHeartbeats 4000000 in
/-- The reference's result is the last stage on its arguments. -/
theorem res_eq (m : (ℓ : Loc nD τ sig) → Buf (Elt Ideal) ℓ) (c : Dev nD) :
    res_main_v110 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13)) := by
  unfold res_main_v110; rfl

end Cert.Proof.Ref

end
-- ==== Proof.RefValue.lean ====
/-
  The reference's stages, index by index, over the extended reals.
-/
module

public import proofs.«01_k».proof.Proof.RefStages

@[expose] public section

set_option maxRecDepth 16384

noncomputable section

namespace Cert.Proof.Ref

open Cert.ReferenceIdeal Cert.ReferenceIdeal.Gen
open Idealize.ShloMosaic
open Cert.Proof.Formula

/-- The normalized tokens. -/
theorem normS_apply (x : FVec Ideal S4x512x512 .f32) (g b : FVec Ideal S512 .f32) (z : Fin 4) (n i : Fin 512) :
    normS x g b (ix3 (n0 := 4) (n1 := 512) (n2 := 512) z n i)
      = normed 512 epsR (fun n i => x (ix3 z n i)) (fun i => g (ix1 i)) (fun i => b (ix1 i)) n i := by
  unfold normed
  rw [norm_eq (by norm_num) epsR_pos]
  pointwise [normS, devS, meanS]
  simp only [Consts.c512, Consts.eps]
  rfl

/-- The normalized atoms. -/
theorem normA_apply (x : FVec Ideal S4x2048x128 .f32) (g b : FVec Ideal S128 .f32) (z : Fin 4) (n : Fin 2048) (i : Fin 128) :
    normA x g b (ix3 (n0 := 4) (n1 := 2048) (n2 := 128) z n i)
      = normed 128 epsR (fun n i => x (ix3 z n i)) (fun i => g (ix1 i)) (fun i => b (ix1 i)) n i := by
  unfold normed
  rw [norm_eq (by norm_num) epsR_pos]
  pointwise [normA, devA, meanA]
  simp only [Consts.c128, Consts.eps]
  rfl

/-- A projection of the tokens, cut into heads. -/
theorem headsS_apply (s : FVec Ideal S4x512x512 .f32) (w : FVec Ideal S512x128 .f32) (z h : Fin 4) (n : Fin 512) (e : Fin 32) :
    headsS s w (ix4 (n0 := 4) (n1 := 4) (n2 := 512) (n3 := 32) z h n e) = proj (fun i => s (ix3 z n i)) (fun i d => w (ix2 i d)) (comp h e) := by
  pointwise [headsS]
  rfl

/-- A projection of the atoms, cut into heads. -/
theorem headsA_apply (s : FVec Ideal S4x2048x128 .f32) (w : FVec Ideal S128x128 .f32) (z h : Fin 4) (n : Fin 2048) (e : Fin 32) :
    headsA s w (ix4 (n0 := 4) (n1 := 4) (n2 := 2048) (n3 := 32) z h n e) = proj (fun i => s (ix3 z n i)) (fun i d => w (ix2 i d)) (comp h e) := by
  pointwise [headsA]
  rfl

/-- A score is a head's product of query and key, over the root of 32. -/
theorem scores_apply (q : FVec Ideal S4x4x512x32 .f32) (k : FVec Ideal S4x4x2048x32 .f32) (z h : Fin 4) (n : Fin 512) (m : Fin 2048) :
    scores q k (ix4 (n0 := 4) (n1 := 4) (n2 := 512) (n3 := 2048) z h n m)
      = Ideal.div (∑ e, q (ix4 z h n e) * k (ix4 z h m e)) (Ideal.sqrt ((32 : ℝ) : EReal)) := by
  pointwise [scores]
  simp only [Consts.c32]

/-- A number below 2048 against a window's start and end, as words. -/
theorem inside_word (st ct : BitVec 32) (n : Fin 512) (m : Fin 2048) (hs : st = BitVec.ofNat 32 (4 * n.val)) (hc : ct.toInt ≤ 4) :
    FloatOps.uitofp (F := Ideal) FTy.f32 (IntOp.andi (IntOp.cmpi CmpIPredicate.sge (BitVec.ofNat 32 m.val) st)
        (IntOp.cmpi CmpIPredicate.slt (BitVec.ofNat 32 m.val) (IntOp.addi st ct))) = inside n ct.toInt m := by
  have hm : (BitVec.ofNat 32 m.val).toInt = m.val := by
    rw [BitVec.toInt_ofNat']; rw [Int.bmod_def]; omega
  have hst : st.toInt = 4 * n.val := by
    subst hs; rw [BitVec.toInt_ofNat']; rw [Int.bmod_def]; omega
  have hlo : -2147483648 ≤ ct.toInt := by have := ct.le_toInt; norm_num at this; exact this
  have hsum : (st + ct).toInt = 4 * n.val + ct.toInt := by
    rw [BitVec.toInt_add, hst, Int.bmod_def]; omega
  have e : IntOp.andi (IntOp.cmpi CmpIPredicate.sge (BitVec.ofNat 32 m.val) st)
        (IntOp.cmpi CmpIPredicate.slt (BitVec.ofNat 32 m.val) (IntOp.addi st ct))
      = if (4 * (n.val : ℤ) ≤ m.val ∧ (m.val : ℤ) < 4 * n.val + ct.toInt) then 1#1 else 0#1 := by
    simp only [IntOp.andi, IntOp.cmpi, IntOp.addi, BitVec.sle, BitVec.slt, hm, hst, hsum]
    by_cases h1 : 4 * (n.val : ℤ) ≤ m.val <;> by_cases h2 : (m.val : ℤ) < 4 * n.val + ct.toInt <;> simp [h1, h2]
  rw [e]; unfold inside
  split <;> simp [FloatOps.uitofp]

/-- The mask is one inside the token's window and zero outside. -/
theorem windowOf_apply (st ct : IVec S4x512 32) (z : Fin 4) (n : Fin 512) (m : Fin 2048) (y : Fin 1)
    (hs : st (ix2 z n) = BitVec.ofNat 32 (4 * n.val)) (hc : (ct (ix2 z n)).toInt ≤ 4) :
    windowOf st ct (ix4 (n0 := 4) (n1 := 1) (n2 := 512) (n3 := 2048) z y n m) = inside n (ct (ix2 z n)).toInt m := by
  rw [← inside_word _ _ n m hs hc]
  pointwise [windowOf]

/-- The largest score inside the mask. -/
theorem topOf_apply (w : FVec Ideal S4x1x512x2048 .f32) (s : FVec Ideal S4x4x512x2048 .f32) (z h : Fin 4) (n : Fin 512) :
    topOf w s (ix3 (n0 := 4) (n1 := 4) (n2 := 512) z h n) = Finset.univ.fold max ⊥ fun m => if 0 < w (ix4 z 0 n m) then s (ix4 z h n m) else ⊥ := by
  pointwise [topOf]
  simp only [Consts.ninf]

/-- The exponentials, the largest score taken off, cut to the mask. -/
theorem expsOf_apply (w : FVec Ideal S4x1x512x2048 .f32) (s : FVec Ideal S4x4x512x2048 .f32) (z h : Fin 4) (n : Fin 512) (m : Fin 2048) :
    expsOf w s (ix4 (n0 := 4) (n1 := 4) (n2 := 512) (n3 := 2048) z h n m)
      = Ideal.exp (s (ix4 z h n m) - topOf w s (ix3 (n0 := 4) (n1 := 4) (n2 := 512) z h n)) * w (ix4 z 0 n m) := by
  pointwise [expsOf]

/-- The weights: each exponential over the sum of them all and the small constant. -/
theorem weightsOf_apply (w : FVec Ideal S4x1x512x2048 .f32) (s : FVec Ideal S4x4x512x2048 .f32) (z h : Fin 4) (n : Fin 512) (m : Fin 2048) :
    weightsOf w s (ix4 (n0 := 4) (n1 := 4) (n2 := 512) (n3 := 2048) z h n m)
      = Ideal.div (expsOf w s (ix4 z h n m)) (∑ k : Fin 2048, expsOf w s (ix4 z h n k) + (tinyR : EReal)) := by
  pointwise [weightsOf]
  simp only [Consts.tiny]; rfl

/-- The values averaged by the weights, times the token mask. -/
theorem averaged_apply (p : FVec Ideal S4x4x512x2048 .f32) (v : FVec Ideal S4x4x2048x32 .f32) (tm : FVec Ideal S4x512 .f32) (z h : Fin 4) (n : Fin 512) (e : Fin 32) :
    averaged p v tm (ix4 (n0 := 4) (n1 := 4) (n2 := 512) (n3 := 32) z h n e) = (∑ m : Fin 2048, p (ix4 z h n m) * v (ix4 z h m e)) * tm (ix2 z n) := by
  pointwise [averaged]

/-- The heads side by side again. -/
theorem joined_apply (x : FVec Ideal S4x4x512x32 .f32) (z : Fin 4) (n : Fin 512) (d : Fin 128) :
    joined x (ix3 (n0 := 4) (n1 := 512) (n2 := 128) z n d) = x (ix4 z (headOf d) n (placeOf d)) := by
  pointwise [joined]
  rfl

/-- The gate is the logistic function. -/
theorem gateOf_apply (x : FVec Ideal S4x512x128 .f32) (z : Fin 4) (n : Fin 512) (d : Fin 128) :
    gateOf x (ix3 (n0 := 4) (n1 := 512) (n2 := 128) z n d) = Ideal.logistic (x (ix3 z n d)) := by
  pointwise [gateOf]
  rfl

/-- The output product. -/
theorem out_apply (x : FVec Ideal S4x512x128 .f32) (wo : FVec Ideal S128x512 .f32) (z : Fin 4) (n c : Fin 512) :
    (Host.dotGeneral dot_S4x512x128_S128x512_S4x512x512_2_0_01_1_n_n none x wo : FVec Ideal S4x512x512 .f32) (ix3 (n0 := 4) (n1 := 512) (n2 := 512) z n c)
      = ∑ d : Fin 128, x (ix3 z n d) * wo (ix2 d c) := by
  pointwise []

/-- The result, index by index, where every window starts at its token's first atom and has at most four, and the token mask is one. -/
theorem result_apply (s : FVec Ideal S4x512x512 .f32) (a : FVec Ideal S4x2048x128 .f32) (st ct : IVec S4x512 32) (tm : FVec Ideal S4x512 .f32)
    (wq : FVec Ideal S512x128 .f32) (wk wv : FVec Ideal S128x128 .f32) (wg : FVec Ideal S512x128 .f32) (wo : FVec Ideal S128x512 .f32)
    (gq bq : FVec Ideal S512 .f32) (gk bk : FVec Ideal S128 .f32) (z : Fin 4)
    (hs : ∀ n : Fin 512, st (ix2 z n) = BitVec.ofNat 32 (4 * n.val)) (hc : ∀ n : Fin 512, (ct (ix2 z n)).toInt ≤ 4)
    (ht : ∀ n : Fin 512, tm (ix2 z n) = 1) (n c : Fin 512) :
    result s a st ct tm wq wk wv wg wo gq bq gk bk (ix3 (n0 := 4) (n1 := 512) (n2 := 512) z n c)
      = attend (normed 512 epsR (fun n i => s (ix3 z n i)) (fun i => gq (ix1 i)) fun i => bq (ix1 i))
          (normed 128 epsR (fun n i => a (ix3 z n i)) (fun i => gk (ix1 i)) fun i => bk (ix1 i))
          (fun n => (ct (ix2 z n)).toInt) (fun i d => wq (ix2 i d)) (fun i d => wk (ix2 i d)) (fun i d => wv (ix2 i d)) (fun i d => wg (ix2 i d))
          (fun i d => wo (ix2 i d)) n c := by
  unfold result attend
  rw [out_apply]
  refine Finset.sum_congr rfl fun d _ => ?_
  have hw (h : Fin 4) (S : FVec Ideal S4x4x512x2048 .f32) (m : Fin 2048) :
      weightsOf (windowOf st ct) S (ix4 (n0 := 4) (n1 := 4) (n2 := 512) (n3 := 2048) z h n m)
        = weightAll (tinyR : EReal) n (ct (ix2 z n)).toInt (fun m => S (ix4 z h n m)) m := by
    simp only [weightsOf_apply, expsOf_apply, topOf_apply, windowOf_apply st ct z n _ 0 (hs n) (hc n)]
    rfl
  have hv : joined (averaged (weightsOf (windowOf st ct) (scores (headsS (normS s gq bq) wq) (headsA (normA a gk bk) wk))) (headsA (normA a gk bk) wv) tm)
        (ix3 (n0 := 4) (n1 := 512) (n2 := 128) z n d)
      = ∑ j, weight (tinyR : EReal) (ct (ix2 z n)).toInt
          (fun j => scores (headsS (normS s gq bq) wq) (headsA (normA a gk bk) wk) (ix4 z (headOf d) n (atom n j))) j
          * headsA (normA a gk bk) wv (ix4 z (headOf d) (atom n j) (placeOf d)) := by
    rw [joined_apply, averaged_apply, ht, mul_one]
    simp only [hw]
    exact window_eq (hc n) tinyR_pos _ fun m => headsA (normA a gk bk) wv (ix4 z (headOf d) m (placeOf d))
  have hg : gateOf (joined (headsS (normS s gq bq) wg)) (ix3 (n0 := 4) (n1 := 512) (n2 := 128) z n d)
      = Ideal.logistic (proj (normed 512 epsR (fun n i => s (ix3 z n i)) (fun i => gq (ix1 i)) (fun i => bq (ix1 i)) n) (fun i d => wg (ix2 i d)) d) := by
    rw [gateOf_apply, joined_apply, headsS_apply, comp_headOf]
    simp only [normS_apply]
  have hm (x y : FVec Ideal S4x512x128 .f32) (i : S4x512x128.Idx) : mulf x y i = x i * y i := rfl
  rw [hm, hv, hg]
  simp only [scores_apply, headsA_apply, headsS_apply, comp_headOf, normS_apply, normA_apply]
  rfl

end Cert.Proof.Ref

end
-- ==== Proof.Equation.lean ====
/-
  The equation: where the windows are as the kernel assumes them, the kernel and the reference leave the same result.
-/
module

public import proofs.«01_k».proof.Defs
public import proofs.«01_k».proof.Proof.Result
public import proofs.«01_k».proof.Proof.RefValue
public import proofs.«01_k».proof.Proof.Gen.Pre_windows

@[expose] public section

set_option maxRecDepth 16384

noncomputable section

namespace Cert.Proof

open Idealize.ShloMosaic Idealize.SL.Sem

/-! ## The precondition, read -/

/-- A conjunction of two truth bits holds when both do. -/
theorem and_eq_one (a b : BitVec 1) : IntOp.andi a b = 1#1 ↔ a = 1#1 ∧ b = 1#1 := by
  revert a b; decide

/-- A conjunction over a finite set holds of every member. -/
theorem fold_and {ι : Type*} (s : Finset ι) (f : ι → BitVec 1) (h : Finset.fold IntOp.andi (1#1) f s = 1#1) : ∀ x ∈ s, f x = 1#1 := by
  classical
  induction s using Finset.induction_on with
  | empty => exact fun x hx => absurd hx (Finset.notMem_empty x)
  | insert a s ha ih =>
    rw [Finset.fold_insert ha] at h
    obtain ⟨h1, h2⟩ := (and_eq_one _ _).mp h
    intro x hx
    rcases Finset.mem_insert.mp hx with rfl | hx
    · exact h1
    · exact ih h2 x hx

section
open Cert.Pre_windows

/-- Token `n`'s window starts at atom `4 n` and has at most four atoms, and the token mask is one. -/
theorem windows_read (s : FVec Ideal S4x512x512 .f32) (a : FVec Ideal S4x2048x128 .f32) (st ct : IVec S4x512 32) (tm : FVec Ideal S4x512 .f32)
    (wq : FVec Ideal S512x128 .f32) (wk wv : FVec Ideal S128x128 .f32) (wg : FVec Ideal S512x128 .f32) (wo : FVec Ideal S128x512 .f32)
    (gq bq : FVec Ideal S512 .f32) (gk bk : FVec Ideal S128 .f32) (h : Cert.Pre_windows.fn s a st ct tm wq wk wv wg wo gq bq gk bk ix0 = 1#1)
    (z : Fin 4) (n : Fin 512) :
    st (ix2 z n) = BitVec.ofNat 32 (4 * n.val) ∧ (ct (ix2 z n)).toInt ≤ 4 ∧ tm (ix2 z n) = 1 := by
  revert h
  unfold Cert.Pre_windows.fn
  pointwise []
  intro h
  obtain ⟨h, h3⟩ := (and_eq_one _ _).mp h
  obtain ⟨h1, h2⟩ := (and_eq_one _ _).mp h
  replace h1 := fold_and _ _ h1 (z, n) (Finset.mem_univ _)
  replace h2 := fold_and _ _ h2 (z, n) (Finset.mem_univ _)
  replace h3 := fold_and _ _ h3 (z, n) (Finset.mem_univ _)
  dsimp only at h1 h2 h3
  refine ⟨?_, ?_, ?_⟩
  · have e : st (ix2 z n) = BitVec.ofNat 32 n.val * 4#32 := IntOp.cmpi_eq.1 h1
    rw [e, ← BitVec.ofNat_mul, mul_comm]
  · exact IntOp.cmpi_sle.1 h2
  · by_contra hne
    simp [hne] at h3
end

/-! ## The equation -/

/-- Where every window starts at its token's first atom and has at most four atoms, and no token is masked out, the kernel and
    the reference leave the same result over the extended reals. -/
theorem algebraic : Cert.algebraic_KernelIdeal_ReferenceIdeal_pre_windows := fun m g m' g' hpre hargs =>
  ⟨fun c => Attn.whole m c,
   (θ_run (Cert.KernelIdeal.defs (F := Ideal)) (Cert.KernelIdeal.threads (F := Ideal)) ⟨m, fun _ => 0, g⟩).mono
     (fun _ h c => ⟨((h.1 c).1 12).trans (Attn.final m c), Attn.args_of_QC m h c⟩) (Attn.run_main m g),
   (θ_run Cert.ReferenceIdeal.defs _ _).mono (fun r h c => ⟨(h c).1.trans (by
      rw [Ref.res_eq]
      obtain ⟨e0, e1, e2, e3, e4, e5, e6, e7, e8, e9, e10, e11, e12, e13⟩ := hargs c
      rw [e0, e1, e2, e3, e4, e5, e6, e7, e8, e9, e10, e11, e12, e13]
      have hw := windows_read _ _ _ _ _ _ _ _ _ _ _ _ _ _ (congrFun (hpre c) ix0)
      funext i
      obtain ⟨z, n, k, rfl⟩ : ∃ (z : Fin 4) (n k : Fin 512), i = ix3 z n k := ⟨_, _, _, eq_ix3 i⟩
      exact Ref.result_apply _ _ _ _ _ _ _ _ _ _ _ _ _ _ z (fun n => (hw z n).1) (fun n => (hw z n).2.1) (fun n => (hw z n).2.2) n k), (h c).2⟩)
     (Cert.ReferenceIdeal.Value.run (F := Ideal) m' g')⟩

end Cert.Proof

end
-- ==== Proof.lean ====
/-
  The certificate's claim, assembled: the frames, the named constants and the equation with the reference.
-/
module

public import proofs.«01_k».proof.Defs
public import proofs.«01_k».proof.Proof.FrameClaims
public import proofs.«01_k».proof.Proof.Equation
public import Idealize.ShloMosaic.Adequacy
public import Idealize.ShloMosaic.Init

@[expose] public section

noncomputable section

namespace Cert.Proof

open Idealize.ShloMosaic Idealize.SL.Sem

/-- Every claim of the certificate: the side facts of the four programs, the frames, what naming the constants
    preserves, and the equation. -/
theorem claim : Cert.Claim :=
  ⟨Cert.Kernel.Gen.facts, Cert.KernelIdeal.Gen.facts, Cert.ReferenceIdeal.Gen.facts, Cert.Pre_windows.Gen.facts,
    frame_p, frame_pi, frame_pi_windows, frame_ri, frame_ri_windows, preserves, algebraic⟩

end Cert.Proof

end
